-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e_over_temp" .f32 0x41E6D4CA#32 (((Real.log 2)⁻¹ * (13421773 / 268435456)⁻¹ : ℝ) : EReal)
  ∧ IdealRules.named_const.Statement Cert.KernelIdeal.κ "ln2" .f32 0x3F317218#32 ((Real.log 2 : ℝ) : EReal)
  ∧ IdealRules.named_const.Statement Cert.KernelIdeal.κ "inv_ln2" .f32 0x3FB8AA3B#32 (((Real.log 2)⁻¹ : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x64 : Shape := ⟨2, ![1024, 64]⟩
abbrev S1024 : Shape := ⟨1, ![1024]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1024 : S_.BroadcastsInDim S1024 (![] : Fin 0 → Fin S1024.rank)

variable [Facts]

def fn {F : FTy → Type} [FloatOps F] (main_arg0 : FVec F S1024x64 .f32) (main_arg1 : IVec S1024 32) (main_arg2 : FVec F S100000x64 .f32) (main_arg3 : IVec S_ 32) (main_arg4 : FVec F S100000x64 .f32) : IVec S1024 1 :=
  let main_v0 : FVec F S100000x64 .f32 := Host.absf main_arg4
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_v6 : IVec S1024 1 := broadcastInDim S1024 ![] bcast_S_S1024 main_v3
  let main_v7 : IVec S1024 1 := andi main_v6 main_v5
  let main_c_1 : IVec S_ 32 := constantI S_ 32 100000#32
  let main_v8 : IVec S1024 32 := broadcastInDim S1024 ![] bcast_S_S1024 main_c_1
  let main_v9 : IVec S1024 1 := cmpi .slt main_arg1 main_v8
  let main_v10 : IVec S1024 1 := andi main_v7 main_v9
  main_v10
-- ==== Pre_in_range.lean ====
abbrev S1024x64 : Shape := ⟨2, ![1024, 64]⟩
abbrev S1024 : Shape := ⟨1, ![1024]⟩
abbrev S100000x64 : Shape := ⟨2, ![100000, 64]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x64 .f32) (main_arg1 : IVec S1024 32) (main_arg2 : FVec F S100000x64 .f32) (main_arg3 : IVec S_ 32) (main_arg4 : FVec F S100000x64 .f32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Kernel.lean ====
abbrev S1024x64 : Shape := ⟨2, ![1024, 64]⟩
abbrev S1024 : Shape := ⟨1, ![1024]⟩
abbrev S100000x64 : Shape := ⟨2, ![100000, 64]⟩
abbrev S_ : Shape := ⟨0, ![]⟩
abbrev S1024x1 : Shape := ⟨2, ![1024, 1]⟩
abbrev S1024x128 : Shape := ⟨2, ![1024, 128]⟩
abbrev S50000x128 : Shape := ⟨2, ![50000, 128]⟩
abbrev S4000x64 : Shape := ⟨2, ![4000, 64]⟩
abbrev S2000x128 : Shape := ⟨2, ![2000, 128]⟩
abbrev S2000x64 : Shape := ⟨2, ![2000, 64]⟩
abbrev S1024x4000 : Shape := ⟨2, ![1024, 4000]⟩
abbrev S1024x32 : Shape := ⟨2, ![1024, 32]⟩
abbrev S1024x96 : Shape := ⟨2, ![1024, 96]⟩
abbrev S1x1024 : Shape := ⟨2, ![1, 1024]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1x1 : Shape := ⟨2, ![1, 1]⟩

abbrev nBuf : Table → Nat
  | .hbm => 83
  | .local .tc .vmem => 13
  | .local .scVector .vmem => 2
  | _ => 0

abbrev bufTy : (tb : Table) → Fin (nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S_, .i32⟩
  | .hbm, ⟨4, _⟩ => ⟨S100000x64, .f32⟩
  | .hbm, ⟨5, _⟩ => ⟨S1024x64, .bf16⟩
  | .hbm, ⟨6, _⟩ => ⟨S1024x128, .f32⟩
  | .hbm, ⟨7, _⟩ => ⟨S50000x128, .f32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S_, .i1⟩
  | .hbm, ⟨45, _⟩ => ⟨S1024, .i1⟩
  | .hbm, ⟨46, _⟩ => ⟨S1024, .i1⟩
  | .hbm, ⟨47, _⟩ => ⟨S1024, .i1⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S_, .i1⟩
  | .hbm, ⟨68, _⟩ => ⟨S1024, .i1⟩
  | .hbm, ⟨69, _⟩ => ⟨S1024, .i1⟩
  | .hbm, ⟨70, _⟩ => ⟨S1024, .i1⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S_, .i32⟩
  | .hbm, ⟨75, _⟩ => ⟨S1024, .i32⟩
  | .hbm, ⟨76, _⟩ => ⟨S1024, .i1⟩
  | .hbm, ⟨77, _⟩ => ⟨S1024, .f32⟩
  | .hbm, ⟨78, _⟩ => ⟨S1024x1, .f32⟩
  | .hbm, ⟨79, _⟩ => ⟨S1x1024, .i32⟩
  | .hbm, ⟨80, _⟩ => ⟨S1024x128, .f32⟩
  | .hbm, ⟨81, _⟩ => ⟨S1x1, .f32⟩
  | .hbm, ⟨82, _⟩ => ⟨S_, .f32⟩
  | .local .tc .vmem, ⟨0, _⟩ => ⟨S1024x64, .f32⟩
  | .local .tc .vmem, ⟨1, _⟩ => ⟨S1024x64, .bf16⟩
  | .local .tc .vmem, ⟨2, _⟩ => ⟨S1024x64, .bf16⟩
  | .local .tc .vmem, ⟨3, _⟩ => ⟨S4000x64, .f32⟩
  | .local .tc .vmem, ⟨4, _⟩ => ⟨S4000x64, .f32⟩
  | .local .tc .vmem, ⟨5, _⟩ => ⟨S1024x128, .f32⟩
  | .local .tc .vmem, ⟨6, _⟩ => ⟨S2000x128, .f32⟩
  | .local .tc .vmem, ⟨7, _⟩ => ⟨S2000x128, .f32⟩
  | .local .tc .vmem, ⟨8, _⟩ => ⟨S1024x64, .bf16⟩
  | .local .tc .vmem, ⟨9, _⟩ => ⟨S1024x128, .f32⟩
  | .local .tc .vmem, ⟨10, _⟩ => ⟨S1024x1, .f32⟩
  | .local .tc .vmem, ⟨11, _⟩ => ⟨S1024x128, .f32⟩
  | .local .tc .vmem, ⟨12, _⟩ => ⟨S1x1, .f32⟩
  | .local .scVector .vmem, ⟨0, _⟩ => ⟨S2x1x128, .i32⟩
  | .local .scVector .vmem, ⟨1, _⟩ => ⟨S2x128x128, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v5 : Ref sig .tc := ⟨.hbm, 50, rfl⟩
abbrev main_v6 : Ref sig .tc := ⟨.hbm, 51, rfl⟩
abbrev main_c_2 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v7 : Ref sig .tc := ⟨.hbm, 73, rfl⟩
abbrev main_c_3 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v1_1_scv : Ref sig .scVector := ⟨.hbm, 7, rfl⟩
abbrev main_v12_scv : Ref sig .scVector := ⟨.hbm, 79, rfl⟩
abbrev main_v13_scv : Ref sig .scVector := ⟨.hbm, 80, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc2_scoped0 : Ref sig .scVector := ⟨.vmem, 0, rfl⟩
abbrev cc2_scoped2 : Ref sig .scVector := ⟨.vmem, 1, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem3_0 : DmaSem sig := 6
abbrev cc1_sem3_1 : DmaSem sig := 7
abbrev cc3_sem0_0 : DmaSem sig := 14
abbrev cc3_sem1_0 : DmaSem sig := 15
abbrev cc3_sem2_0 : DmaSem sig := 16
abbrev cc3_sem3_0 : DmaSem sig := 17
abbrev cc3_sem4_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_6 : BitVec 32 := 0#32
  let v79 : BitVec 1 := Scalar.cmpi .ne v78 c0_i32_6
  v79

def k1_cond2 (i : grid1.Coords) : BitVec 1 :=
  let arg0 : BitVec 32 := BitVec.ofNat 32 (i 0).val
  let c0_i32_7 : BitVec 32 := 0#32
  let v80 : BitVec 1 := Scalar.cmpi .sgt arg0 c0_i32_7
  let v81 : BitVec 32 := Scalar.extui v80
  let c0_i32_8 : BitVec 32 := 0#32
  let v82 : BitVec 1 := Scalar.cmpi .ne v81 c0_i32_8
  v82

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def k2_cond1 (i : grid2.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c0_i32_5_r0 : BitVec 32 := 0#32
  let v10_r0 : BitVec 1 := Scalar.cmpi .sgt v7 c0_i32_5_r0
  let v11_r0 : BitVec 32 := Scalar.extui v10_r0
  let c0_i32_6_r0 : BitVec 32 := 0#32
  let v12_r0 : BitVec 1 := Scalar.cmpi .ne v11_r0 c0_i32_6_r0
  v12_r0

def k2_cond2 (i : grid2.Coords) : BitVec 1 :=
  let true_22_r0 : BitVec 1 := 1#1
  let c1_i32_7_r0 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v13_r0 : BitVec 32 := Scalar.muli c1_i32_7_r0 v1
  let c0_i32_21_r0 : BitVec 32 := 0#32
  let v31_r0 : BitVec 1 := Scalar.cmpi .sgt v13_r0 c0_i32_21_r0
  let v32_r0 : BitVec 1 := Scalar.andi true_22_r0 v31_r0
  let true_23_r0 : BitVec 1 := 1#1
  let v33_r0 : BitVec 1 := Scalar.andi v32_r0 true_23_r0
  let v34_r0 : BitVec 32 := Scalar.extui v33_r0
  let c0_i32_25_r0 : BitVec 32 := 0#32
  let v35_r0 : BitVec 1 := Scalar.cmpi .ne v34_r0 c0_i32_25_r0
  v35_r0

def k2_off1 : Fin 3 → Nat :=
  let c0_i32_24_r0 : BitVec 32 := 0#32
  let c2_i32_r0 : BitVec 32 := 2#32
  let v76_r0 : BitVec 32 := Scalar.remui c0_i32_24_r0 c2_i32_r0
  let c0_i32_57_r0 : BitVec 32 := 0#32
  let c0_i32_58_r0 : BitVec 32 := 0#32
  ![v76_r0.toNat, 0, 0]
def k2_off2 (i : grid2.Coords) : Fin 2 → Nat :=
  let c0_i32_59_r0 : BitVec 32 := 0#32
  let c128_i32_r0 : BitVec 32 := 128#32
  let c0_i32_10_r0 : BitVec 32 := 0#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v16_r0 : BitVec 32 := Scalar.addi c0_i32_10_r0 v6
  let v77_r0 : BitVec 32 := Scalar.muli c128_i32_r0 v16_r0
  ![0, v77_r0.toNat]
def k2_off3 : Fin 1 → Nat :=
  let c0_i32_24_r0 : BitVec 32 := 0#32
  let c2_i32_r0 : BitVec 32 := 2#32
  let v76_r0 : BitVec 32 := Scalar.remui c0_i32_24_r0 c2_i32_r0
  ![v76_r0.toNat]
@[reducible] def k2_t1_loop (i : grid2.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_35_r0 : BitVec 32 := 1#32
  ⟨c0_i32_29_r0, v42_r0, c1_i32_35_r0⟩
def k2_off4 (arg6_r0 : BitVec 32) : Fin 3 → Nat :=
  let c2_i32_101_r0 : BitVec 32 := 2#32
  let v163_r0 : BitVec 32 := Scalar.remui arg6_r0 c2_i32_101_r0
  let c0_i32_102_r0 : BitVec 32 := 0#32
  let c0_i32_103_r0 : BitVec 32 := 0#32
  ![v163_r0.toNat, 0, 0]
def k2_cond3 (i : grid2.Coords) (k2_t1 : Fin (k2_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg5_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k2_off5 (i : grid2.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v164_r0 : BitVec 32 := Scalar.muli c128_i32_r0 v91_r0
  ![0, v164_r0.toNat]
def k2_off6 (arg6_r0 : BitVec 32) : Fin 1 → Nat :=
  let c2_i32_101_r0 : BitVec 32 := 2#32
  let v163_r0 : BitVec 32 := Scalar.remui arg6_r0 c2_i32_101_r0
  ![v163_r0.toNat]
def k2_off7 (arg7_r0 : BitVec 32) : Fin 3 → Nat :=
  let c2_i32_101_r0 : BitVec 32 := 2#32
  let v164_r0 : BitVec 32 := Scalar.remui arg7_r0 c2_i32_101_r0
  let c0_i32_102_r0 : BitVec 32 := 0#32
  let c0_i32_103_r0 : BitVec 32 := 0#32
  ![v164_r0.toNat, 0, 0]
def k2_cond4 (i : grid2.Coords) (k2_t1 : Fin (k2_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v77_r0 : BitVec 1 := Scalar.cmpi .eq arg5_r0 c0_i32_58_r0
  let v116_r0 : BitVec 1 := Scalar.ori v115_r0 v77_r0
  let c0_i32_79_r0 : BitVec 32 := 0#32
  let v117_r0 : BitVec 1 := Scalar.cmpi .sge arg5_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k2_off8 (i : grid2.Coords) (arg10_r0 : BitVec 32) : Fin 2 → Nat :=
  let c0_i32_104_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v163_r0 : BitVec 32 := Scalar.muli c128_i32_r0 v80_r0
  ![0, v163_r0.toNat]
def k2_off9 (arg7_r0 : BitVec 32) : Fin 1 → Nat :=
  let c2_i32_101_r0 : BitVec 32 := 2#32
  let v164_r0 : BitVec 32 := Scalar.remui arg7_r0 c2_i32_101_r0
  ![v164_r0.toNat]
def k2_off10 (arg8_r0 : BitVec 32) : Fin 3 → Nat :=
  let c2_i32_84_r0 : BitVec 32 := 2#32
  let v128_r0 : BitVec 32 := Scalar.remui arg8_r0 c2_i32_84_r0
  let c0_i32_101_r1 : BitVec 32 := 0#32
  let c0_i32_102_r1 : BitVec 32 := 0#32
  ![v128_r0.toNat, 0, 0]

def k2_chk2 (i : grid2.Coords) (k2_t1 : Fin (k2_t1_loop i).trips) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (k2_t1 : Fin (k2_t1_loop i).trips) (arg8_r0 : BitVec 32) (k2_hw2 : k2_chk2 i k2_t1 arg8_r0), ∀ (k2_h1 : k2_cond1 i = 1#1), ∀ a, (k2_off10 arg8_r0) a + S1x128x128.size a ≤ S2x128x128.size a := fun i k2_t1 arg8_r0 k2_hw2 k2_h1 => k2_hw2 k2_h1

def k2_off11 (arg7_r0 : BitVec 32) : Fin 3 → Nat :=
  let c2_i32_83_r0 : BitVec 32 := 2#32
  let v127_r0 : BitVec 32 := Scalar.remui arg7_r0 c2_i32_83_r0
  let c0_i32_103_r1 : BitVec 32 := 0#32
  let c0_i32_104_r1 : BitVec 32 := 0#32
  ![v127_r0.toNat, 0, 0]

def k2_chk3 (i : grid2.Coords) (k2_t1 : Fin (k2_t1_loop i).trips) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (k2_t1 : Fin (k2_t1_loop i).trips) (arg7_r0 : BitVec 32) (k2_hw3 : k2_chk3 i k2_t1 arg7_r0), ∀ (k2_h1 : k2_cond1 i = 1#1), ∀ a, (k2_off11 arg7_r0) a + S1x1x128.size a ≤ S2x1x128.size a := fun i k2_t1 arg7_r0 k2_hw3 k2_h1 => k2_hw3 k2_h1

def k2_off12 (arg8_r0 : BitVec 32) : Fin 3 → Nat :=
  let c2_i32_101_r0 : BitVec 32 := 2#32
  let v163_r0 : BitVec 32 := Scalar.remui arg8_r0 c2_i32_101_r0
  let c0_i32_102_r0 : BitVec 32 := 0#32
  let c0_i32_103_r0 : BitVec 32 := 0#32
  ![v163_r0.toNat, 0, 0]
def k2_cond7 (i : grid2.Coords) (k2_t1 : Fin (k2_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v134_r0 : BitVec 1 := Scalar.cmpi .ne v80_r0 v91_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg5_r0 v78_r0
  let v135_r0 : BitVec 1 := Scalar.ori v134_r0 v79_r0
  let v136_r0 : BitVec 32 := Scalar.extui v135_r0
  let c0_i32_87_r0 : BitVec 32 := 0#32
  let v137_r0 : BitVec 1 := Scalar.cmpi .ne v136_r0 c0_i32_87_r0
  v137_r0

def k2_off13 (i : grid2.Coords) (arg10_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v164_r0 : BitVec 32 := Scalar.muli c128_i32_r0 v80_r0
  let c0_i32_104_r0 : BitVec 32 := 0#32
  ![v164_r0.toNat, 0]
def k2_off14 (arg8_r0 : BitVec 32) : Fin 1 → Nat :=
  let c2_i32_101_r0 : BitVec 32 := 2#32
  let v163_r0 : BitVec 32 := Scalar.remui arg8_r0 c2_i32_101_r0
  ![v163_r0.toNat]
def k2_off15 (arg9_r0 : BitVec 32) : Fin 3 → Nat :=
  let c2_i32_101_r0 : BitVec 32 := 2#32
  let v163_r0 : BitVec 32 := Scalar.remui arg9_r0 c2_i32_101_r0
  let c0_i32_102_r0 : BitVec 32 := 0#32
  let c0_i32_103_r0 : BitVec 32 := 0#32
  ![v163_r0.toNat, 0, 0]
def k2_cond9 (i : grid2.Coords) (k2_t1 : Fin (k2_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v147_r0 : BitVec 1 := Scalar.cmpi .ne v80_r0 v86_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v77_r0 : BitVec 1 := Scalar.cmpi .eq arg5_r0 c0_i32_58_r0
  let true_93_r0 : BitVec 1 := 1#1
  let v148_r0 : BitVec 1 := Scalar.xori v77_r0 true_93_r0
  let v149_r0 : BitVec 1 := Scalar.andi v147_r0 v148_r0
  let v150_r0 : BitVec 32 := Scalar.extui v149_r0
  let c0_i32_94_r0 : BitVec 32 := 0#32
  let v151_r0 : BitVec 1 := Scalar.cmpi .ne v150_r0 c0_i32_94_r0
  v151_r0

def k2_off16 (i : grid2.Coords) (arg10_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v164_r0 : BitVec 32 := Scalar.muli c128_i32_r0 v86_r0
  let c0_i32_104_r0 : BitVec 32 := 0#32
  ![v164_r0.toNat, 0]
def k2_off17 (arg9_r0 : BitVec 32) : Fin 1 → Nat :=
  let c2_i32_101_r0 : BitVec 32 := 2#32
  let v163_r0 : BitVec 32 := Scalar.remui arg9_r0 c2_i32_101_r0
  ![v163_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S1x1024.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S1x1024.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S1024x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S1024x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S1x1024.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S1x1024.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S1024x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S1024x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let v39_r0 : BitVec 32 := Scalar.addi c0_i32_29_r0 v38_r0
  let c1_i32_36_r0 : BitVec 32 := 1#32
  ⟨v42_r0, v39_r0, c1_i32_36_r0⟩
def k2_off18 (arg6_r0 : BitVec 32) : Fin 3 → Nat :=
  let c2_i32_101_r0 : BitVec 32 := 2#32
  let v163_r0 : BitVec 32 := Scalar.remui arg6_r0 c2_i32_101_r0
  let c0_i32_102_r0 : BitVec 32 := 0#32
  let c0_i32_103_r0 : BitVec 32 := 0#32
  ![v163_r0.toNat, 0, 0]
def k2_cond10 (i : grid2.Coords) (k2_t2 : Fin (k2_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k2_t2
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg5_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k2_off19 (i : grid2.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v164_r0 : BitVec 32 := Scalar.muli c128_i32_r0 v91_r0
  ![0, v164_r0.toNat]
def k2_off20 (arg6_r0 : BitVec 32) : Fin 1 → Nat :=
  let c2_i32_101_r0 : BitVec 32 := 2#32
  let v163_r0 : BitVec 32 := Scalar.remui arg6_r0 c2_i32_101_r0
  ![v163_r0.toNat]
def k2_off21 (arg7_r0 : BitVec 32) : Fin 3 → Nat :=
  let c2_i32_101_r0 : BitVec 32 := 2#32
  let v164_r0 : BitVec 32 := Scalar.remui arg7_r0 c2_i32_101_r0
  let c0_i32_102_r0 : BitVec 32 := 0#32
  let c0_i32_103_r0 : BitVec 32 := 0#32
  ![v164_r0.toNat, 0, 0]
def k2_cond11 (i : grid2.Coords) (k2_t2 : Fin (k2_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k2_t2
  let c0_i32_58_r0 : BitVec 32 := 0#32
  let v77_r0 : BitVec 1 := Scalar.cmpi .eq arg5_r0 c0_i32_58_r0
  let v116_r0 : BitVec 1 := Scalar.ori v115_r0 v77_r0
  let c0_i32_79_r0 : BitVec 32 := 0#32
  let v117_r0 : BitVec 1 := Scalar.cmpi .sge arg5_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k2_off22 (i : grid2.Coords) (arg10_r0 : BitVec 32) : Fin 2 → Nat :=
  let c0_i32_104_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v163_r0 : BitVec 32 := Scalar.muli c128_i32_r0 v80_r0
  ![0, v163_r0.toNat]
def k2_off23 (arg7_r0 : BitVec 32) : Fin 1 → Nat :=
  let c2_i32_101_r0 : BitVec 32 := 2#32
  let v164_r0 : BitVec 32 := Scalar.remui arg7_r0 c2_i32_101_r0
  ![v164_r0.toNat]
def k2_off24 (arg8_r0 : BitVec 32) : Fin 3 → Nat :=
  let c2_i32_84_r0 : BitVec 32 := 2#32
  let v128_r0 : BitVec 32 := Scalar.remui arg8_r0 c2_i32_84_r0
  let c0_i32_101_r2 : BitVec 32 := 0#32
  let c0_i32_102_r2 : BitVec 32 := 0#32
  ![v128_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_83_r0 : BitVec 32 := 2#32
  let v127_r0 : BitVec 32 := Scalar.remui arg7_r0 c2_i32_83_r0
  let c0_i32_103_r2 : BitVec 32 := 0#32
  let c0_i32_104_r2 : BitVec 32 := 0#32
  ![v127_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_101_r0 : BitVec 32 := 2#32
  let v163_r0 : BitVec 32 := Scalar.remui arg8_r0 c2_i32_101_r0
  let c0_i32_102_r0 : BitVec 32 := 0#32
  let c0_i32_103_r0 : BitVec 32 := 0#32
  ![v163_r0.toNat, 0, 0]
def k2_cond14 (i : grid2.Coords) (k2_t2 : Fin (k2_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v134_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k2_t2
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg5_r0 v78_r0
  let v135_r0 : BitVec 1 := Scalar.ori v134_r0 v79_r0
  let v136_r0 : BitVec 32 := Scalar.extui v135_r0
  let c0_i32_87_r0 : BitVec 32 := 0#32
  let v137_r0 : BitVec 1 := Scalar.cmpi .ne v136_r0 c0_i32_87_r0
  v137_r0

def k2_off27 (i : grid2.Coords) (arg10_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v164_r0 : BitVec 32 := Scalar.muli c128_i32_r0 v80_r0
  let c0_i32_104_r0 : BitVec 32 := 0#32
  ![v164_r0.toNat, 0]
def k2_off28 (arg8_r0 : BitVec 32) : Fin 1 → Nat :=
  let c2_i32_101_r0 : BitVec 32 := 2#32
  let v163_r0 : BitVec 32 := Scalar.remui arg8_r0 c2_i32_101_r0
  ![v163_r0.toNat]
def k2_off29 (arg9_r0 : BitVec 32) : Fin 3 → Nat :=
  let c2_i32_101_r0 : BitVec 32 := 2#32
  let v163_r0 : BitVec 32 := Scalar.remui arg9_r0 c2_i32_101_r0
  let c0_i32_102_r0 : BitVec 32 := 0#32
  let c0_i32_103_r0 : BitVec 32 := 0#32
  ![v163_r0.toNat, 0, 0]
def k2_cond16 (i : grid2.Coords) (k2_t2 : Fin (k2_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v147_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k2_t2
  let c0_i32_58_r0 : BitVec 32 := 0#32
  let v77_r0 : BitVec 1 := Scalar.cmpi .eq arg5_r0 c0_i32_58_r0
  let true_93_r0 : BitVec 1 := 1#1
  let v148_r0 : BitVec 1 := Scalar.xori v77_r0 true_93_r0
  let v149_r0 : BitVec 1 := Scalar.andi v147_r0 v148_r0
  let v150_r0 : BitVec 32 := Scalar.extui v149_r0
  let c0_i32_94_r0 : BitVec 32 := 0#32
  let v151_r0 : BitVec 1 := Scalar.cmpi .ne v150_r0 c0_i32_94_r0
  v151_r0

def k2_off30 (i : grid2.Coords) (arg10_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v164_r0 : BitVec 32 := Scalar.muli c128_i32_r0 v86_r0
  let c0_i32_104_r0 : BitVec 32 := 0#32
  ![v164_r0.toNat, 0]
def k2_off31 (arg9_r0 : BitVec 32) : Fin 1 → Nat :=
  let c2_i32_101_r0 : BitVec 32 := 2#32
  let v163_r0 : BitVec 32 := Scalar.remui arg9_r0 c2_i32_101_r0
  ![v163_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S1x1024.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S1x1024.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S1024x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S1024x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S1x1024.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S1x1024.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S1024x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S1024x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c1_i32_41_r0 : BitVec 32 := 1#32
  let v50_r0 : BitVec 32 := Scalar.subi v7 c1_i32_41_r0
  let c1_i32_42_r0 : BitVec 32 := 1#32
  let v51_r0 : BitVec 32 := Scalar.muli c1_i32_42_r0 v1
  let c1_i32_44_r0 : BitVec 32 := 1#32
  let v53_r0 : BitVec 32 := Scalar.subi v51_r0 c1_i32_44_r0
  let v54_r0 : BitVec 1 := Scalar.cmpi .eq v50_r0 v53_r0
  let v74_r0 : BitVec 32 := Scalar.extui v54_r0
  let c0_i32_56_r0 : BitVec 32 := 0#32
  let v75_r0 : BitVec 1 := Scalar.cmpi .ne v74_r0 c0_i32_56_r0
  v75_r0

def k2_off32 (v44_3_r0 : BitVec 32) : Fin 3 → Nat :=
  let c2_i32_r0 : BitVec 32 := 2#32
  let v76_r0 : BitVec 32 := Scalar.remui v44_3_r0 c2_i32_r0
  let c0_i32_57_r0 : BitVec 32 := 0#32
  let c0_i32_58_r0 : BitVec 32 := 0#32
  ![v76_r0.toNat, 0, 0]

def k2_off33 (i : grid2.Coords) (v44_4_r0 : BitVec 32) : Fin 2 → Nat :=
  let c128_i32_r0 : BitVec 32 := 128#32
  let true_38_r0 : BitVec 1 := 1#1
  let c1_i32_37_r0 : BitVec 32 := 1#32
  let v45_r0 : BitVec 32 := Scalar.subi v44_4_r0 c1_i32_37_r0
  let v46_r0 : BitVec 32 := Scalar.select true_38_r0 v45_r0 v44_4_r0
  let c_m1_i32_39_r0 : BitVec 32 := 4294967295#32
  let v47_r0 : BitVec 1 := Scalar.cmpi .eq v46_r0 c_m1_i32_39_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_40_r0 : BitVec 32 := 1#32
  let v48_r0 : BitVec 32 := Scalar.subi v1 c1_i32_40_r0
  let v49_r0 : BitVec 32 := Scalar.select v47_r0 v48_r0 v46_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v55_r0 : BitVec 32 := Scalar.addi v49_r0 v6
  let v77_r0 : BitVec 32 := Scalar.muli c128_i32_r0 v55_r0
  let c0_i32_59_r0 : BitVec 32 := 0#32
  ![v77_r0.toNat, 0]

def k2_chk8 (i : grid2.Coords) (v44_4_r0 : BitVec 32) : Prop :=
  (∀ (k2_h1 : k2_cond1 i = 1#1), ∀ (k2_h18 : k2_cond18 i = 1#1), ∀ a, (k2_off33 i v44_4_r0) a + S128x128.size a ≤ S1024x128.size a)
theorem k2_off33_inb : ∀ (i : grid2.Coords) (v44_4_r0 : BitVec 32) (k2_hw8 : k2_chk8 i v44_4_r0), ∀ (k2_h1 : k2_cond1 i = 1#1), ∀ (k2_h18 : k2_cond18 i = 1#1), ∀ a, (k2_off33 i v44_4_r0) a + S128x128.size a ≤ S1024x128.size a := fun i v44_4_r0 k2_hw8 k2_h1 k2_h18 => k2_hw8 k2_h1 k2_h18

def k2_off34 (v44_3_r0 : BitVec 32) : Fin 1 → Nat :=
  let c2_i32_r0 : BitVec 32 := 2#32
  let v76_r0 : BitVec 32 := Scalar.remui v44_3_r0 c2_i32_r0
  ![v76_r0.toNat]
def k2_off35 (v44_3_r0 : BitVec 32) : Fin 3 → Nat :=
  let c2_i32_r0 : BitVec 32 := 2#32
  let v76_r0 : BitVec 32 := Scalar.remui v44_3_r0 c2_i32_r0
  let c0_i32_61_r0 : BitVec 32 := 0#32
  let c0_i32_62_r0 : BitVec 32 := 0#32
  ![v76_r0.toNat, 0, 0]

def k2_chk7 (i : grid2.Coords) (v44_3_r0 : BitVec 32) : Prop :=
  (∀ (k2_h1 : k2_cond1 i = 1#1), ∀ (k2_h18 : k2_cond18 i = 1#1), ∀ a, (k2_off32 v44_3_r0) a + S1x128x128.size a ≤ S2x128x128.size a) ∧
  (∀ (k2_h1 : k2_cond1 i = 1#1), ∀ (k2_h18 : k2_cond18 i = 1#1), ∀ a, (k2_off34 v44_3_r0) a + S1.size a ≤ S2.size a) ∧
  (∀ (k2_h1 : k2_cond1 i = 1#1), ∀ (k2_h18 : k2_cond18 i = 1#1), ∀ a, (k2_off35 v44_3_r0) a + S1x128x128.size a ≤ S2x128x128.size a)
theorem k2_off32_inb : ∀ (i : grid2.Coords) (v44_3_r0 : BitVec 32) (k2_hw7 : k2_chk7 i v44_3_r0), ∀ (k2_h1 : k2_cond1 i = 1#1), ∀ (k2_h18 : k2_cond18 i = 1#1), ∀ a, (k2_off32 v44_3_r0) a + S1x128x128.size a ≤ S2x128x128.size a := fun i v44_3_r0 k2_hw7 k2_h1 k2_h18 => k2_hw7.1 k2_h1 k2_h18
theorem k2_off34_inb : ∀ (i : grid2.Coords) (v44_3_r0 : BitVec 32) (k2_hw7 : k2_chk7 i v44_3_r0), ∀ (k2_h1 : k2_cond1 i = 1#1), ∀ (k2_h18 : k2_cond18 i = 1#1), ∀ a, (k2_off34 v44_3_r0) a + S1.size a ≤ S2.size a := fun i v44_3_r0 k2_hw7 k2_h1 k2_h18 => k2_hw7.2.1 k2_h1 k2_h18
theorem k2_off35_inb : ∀ (i : grid2.Coords) (v44_3_r0 : BitVec 32) (k2_hw7 : k2_chk7 i v44_3_r0), ∀ (k2_h1 : k2_cond1 i = 1#1), ∀ (k2_h18 : k2_cond18 i = 1#1), ∀ a, (k2_off35 v44_3_r0) a + S1x128x128.size a ≤ S2x128x128.size a := fun i v44_3_r0 k2_hw7 k2_h1 k2_h18 => k2_hw7.2.2 k2_h1 k2_h18

abbrev grid3 : Pipeline.Grid := .none

abbrev stage3_0 : Fin 1 → Memref sig .tc .vmem S1024x64 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | "log2e_over_temp" => some (((Real.log 2)⁻¹ * (13421773 / 268435456)⁻¹ : ℝ) : EReal)
  | _ => none
-- ==== ReferenceIdeal.lean ====
abbrev S1024x64 : Shape := ⟨2, ![1024, 64]⟩
abbrev S1024 : Shape := ⟨1, ![1024]⟩
abbrev S100000x64 : Shape := ⟨2, ![100000, 64]⟩
abbrev S_ : Shape := ⟨0, ![]⟩
abbrev S1024x1 : Shape := ⟨2, ![1024, 1]⟩
abbrev S64x100000 : Shape := ⟨2, ![64, 100000]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S_, .i32⟩
  | .hbm, ⟨4, _⟩ => ⟨S100000x64, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x64, .f32⟩
  | .hbm, ⟨15, _⟩ => ⟨S1024x64, .f32⟩
  | .hbm, ⟨16, _⟩ => ⟨S64x100000, .f32⟩
  | .hbm, ⟨17, _⟩ => ⟨S1024x100000, .f32⟩
  | .hbm, ⟨18, _⟩ => ⟨S_, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024x1, .f32⟩
  | .hbm, ⟨27, _⟩ => ⟨S1024x100000, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024, .f32⟩
  | .hbm, ⟨32, _⟩ => ⟨S1024x1, .f32⟩
  | .hbm, ⟨33, _⟩ => ⟨S1024x1, .f32⟩
  | .hbm, ⟨34, _⟩ => ⟨S1024x100000, .f32⟩
  | .hbm, ⟨35, _⟩ => ⟨S1024x100000, .f32⟩
  | .hbm, ⟨36, _⟩ => ⟨S1024x1, .i32⟩
  | .hbm, ⟨37, _⟩ => ⟨S_, .i32⟩
  | .hbm, ⟨38, _⟩ => ⟨S1024x1, .i32⟩
  | .hbm, ⟨39, _⟩ => ⟨S1024x1, .i1⟩
  | .hbm, ⟨40, _⟩ => ⟨S_, .i32⟩
  | .hbm, ⟨41, _⟩ => ⟨S1024x1, .i32⟩
  | .hbm, ⟨42, _⟩ => ⟨S1024x1, .i32⟩
  | .hbm, ⟨43, _⟩ => ⟨S1024x1, .i32⟩
  | .hbm, ⟨44, _⟩ => ⟨S1024x1x1, .i32⟩
  | .hbm, ⟨45, _⟩ => ⟨S1, .i32⟩
  | .hbm, ⟨46, _⟩ => ⟨S_, .i32⟩
  | .hbm, ⟨47, _⟩ => ⟨S1024x1x1, .i32⟩
  | .hbm, ⟨48, _⟩ => ⟨S1024x1x1, .i1⟩
  | .hbm, ⟨49, _⟩ => ⟨S1x1x1, .i32⟩
  | .hbm, ⟨50, _⟩ => ⟨S1024x1x1, .i32⟩
  | .hbm, ⟨51, _⟩ => ⟨S1024x1x1, .i1⟩
  | .hbm, ⟨52, _⟩ => ⟨S1024x1x1, .i1⟩
  | .hbm, ⟨53, _⟩ => ⟨S_, .i1⟩
  | .hbm, ⟨54, _⟩ => ⟨S1024x1, .i1⟩
  | .hbm, ⟨55, _⟩ => ⟨S1024x1, .f32⟩
  | .hbm, ⟨56, _⟩ => ⟨S_, .f32⟩
  | .hbm, ⟨57, _⟩ => ⟨S1024x1, .f32⟩
  | .hbm, ⟨58, _⟩ => ⟨S1024x1, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_call2_cst : Ref sig .tc := ⟨.hbm, 21, rfl⟩
abbrev main_call2_v0 : Ref sig .tc := ⟨.hbm, 22, rfl⟩
abbrev main_call2_cst_0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_v6 : Ref sig .tc := ⟨.hbm, 29, rfl⟩
abbrev main_call2_cst_1 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_v8 : Ref sig .tc := ⟨.hbm, 35, rfl⟩
abbrev main_v9 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_cst : Ref sig .tc := ⟨.hbm, 56, rfl⟩
abbrev main_call3_v14 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_cst_1 : Ref sig .tc := ⟨.hbm, 61, rfl⟩
abbrev main_v13 : Ref sig .tc := ⟨.hbm, 62, rfl⟩
abbrev main_cst_2 : Ref sig .tc := ⟨.hbm, 63, rfl⟩
abbrev main_v14 : Ref sig .tc := ⟨.hbm, 64, rfl⟩

abbrev nD : Nat := 1
abbrev τ : Topo := Topo.v7x

variable {F : FTy → Type} [FloatOps F]
-- ==== Proof.Common.lean ====
/-
  What every module of this proof shares: the program as the launch theorem sees it, the ghost state
  (the handshakes' rounds, the pipelines' rounds, the write mode's region algebra, the transfers'
  counters), the names of the buffers, and what the SparseCore call computes, as a plain function of
  the table and the row of indices.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Pipeline.TableIdle
public import Idealize.ShloMosaic.Lib.WriteMode
public import Idealize.ShloMosaic.Lib.Writes
public import Idealize.ShloMosaic.Lib.Tactic

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := UR sig nD τ
abbrev UW (F : FTy → Type) : Type := WmRA nD τ sig (Elt F) × Counters
abbrev UU (F : FTy → Type) : Type := UH × (UP × UW F)

local notation "𝕄" => MT nD τ sig (HIx 1) (Elt F) ℕ (UU F) ℕ

/-- The handshakes' rounds. -/
abbrev EH : Emb UH (MT nD τ sig (HIx 1) (Elt F) ℕ (UU F) ℕ) := embL
/-- The pipelines' rounds. -/
def EP : Emb UP (MT nD τ sig (HIx 1) (Elt F) ℕ (UU F) ℕ) :=
  (Emb.inl : Emb UP (UP × UW F)).trans (embR : Emb (UP × UW F) (MT nD τ sig (HIx 1) (Elt F) ℕ (UU F) ℕ))
instance EP_landsIn : (EP : Emb UP 𝕄).LandsIn (upEmb : UEmb _ 𝕄) := by unfold EP; infer_instance
/-- The write mode's algebra. -/
abbrev wmE : UEmb (WmRA nD τ sig (Elt F)) (UU F) :=
  ((UEmb.inl : UEmb (WmRA nD τ sig (Elt F)) (UW F)).trans (UEmb.inr : UEmb (UW F) (UP × UW F))).trans (UEmb.inr : UEmb (UP × UW F) (UU F))

/-- The write mode's invariant, at some name. -/
def wmOn : sProp 𝕄 := iprop(∃ ι : ℕ, wmInv (Ix := HIx 1) (Name := ℕ) (Lvl := ℕ) (wmE (F := F)) ι)

instance wmOn_persistent : BI.Persistent (wmOn (F := F)) := by unfold wmOn; infer_instance

/-! ## The buffers -/

abbrev a0Loc (d : Dev nD) : Loc nD τ sig := (SparseCore.T d : Thread nD τ).loc main_arg0
abbrev a1Loc (d : Dev nD) : Loc nD τ sig := (SparseCore.T d : Thread nD τ).loc main_arg1
abbrev a4Loc (d : Dev nD) : Loc nD τ sig := (SparseCore.T d : Thread nD τ).loc main_arg4
/-- The packed table the second region writes. -/
abbrev tLoc (d : Dev nD) : Loc nD τ sig := (SparseCore.T d : Thread nD τ).loc main_v1_1
/-- The row of indices. -/
abbrev iLoc (d : Dev nD) : Loc nD τ sig := (SparseCore.T d : Thread nD τ).loc main_v12
/-- The gathered rows. -/
abbrev oLoc (d : Dev nD) : Loc nD τ sig := (SparseCore.T d : Thread nD τ).loc main_v13

/-! ## What the SparseCore call computes -/

/-- The place of word `r` in the row of indices. -/
abbrev ixAt (r : Fin 1024) : S1x1024.Idx := fun | 0 => (0 : Fin 1) | 1 => r | ⟨_ + 2, h⟩ => absurd h (Nat.not_lt.2 (Nat.le_add_left _ _))
/-- The place of lane `l` of row `w` in the table, row zero when `w` is no row of it. -/
abbrev rowAt (w : ℕ) (l : Fin 128) : S50000x128.Idx :=
  fun | 0 => (⟨if w < 50000 then w else 0, by split <;> omega⟩ : Fin 50000) | 1 => l | ⟨_ + 2, h⟩ => absurd h (Nat.not_lt.2 (Nat.le_add_left _ _))

/-- Row `r` of the result is the table's row that word `r` of the indices names. -/
def gathered (t : Vec F S50000x128 .f32) (ix : Vec F S1x1024 .i32) : Vec F S1024x128 .f32 :=
  fun x => t (rowAt (ix (ixAt (x 0))).toNat (x 1))

end Cert.ScLoss

end
-- ==== Proof.Bodies.lean ====
/-
  The three TensorCore bodies, each run once over any whole staging buffers: what it reads, what it
  leaves.
-/
module

public import proofs.«01_k».proof.Proof.Common
public import Idealize.ShloMosaic.Lib.VecWindow

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

/-- One chunk of the running sum: for each row of `x`, the exponentials of its products with the 4000
    rows of `f`, added up lane by lane. -/
def chunkSum (x : Vec F S1024x64 .bf16) (f : Vec F S4000x64 .f32) : FVec F S1024x128 .f32 :=
  k1_pay3 (k1_pay21 x f) (k1_pay22 x f) (k1_pay23 x f) (k1_pay24 x f) (k1_pay25 x f) (k1_pay26 x f) (k1_pay27 x f) (k1_pay28 x f)
    (k1_pay1 (k1_pay13 x f) (k1_pay14 x f) (k1_pay15 x f) (k1_pay16 x f) (k1_pay17 x f) (k1_pay18 x f) (k1_pay19 x f) (k1_pay20 x f))
    (k1_pay2 (k1_pay7 x f) (k1_pay8 x f) (k1_pay9 x f) (k1_pay10 x f) (k1_pay11 x f) (k1_pay12 x f)
      (k1_pay29 x f) (k1_pay30 x f) (k1_pay31 x f) (k1_pay32 x f) (k1_pay33 x f))

variable (c : Dev nD)

/-- A staging buffer held at what it reads. -/
abbrev ow {s : Shape} {e : EltTy} (M : Memref sig .tc .vmem s e) (X : s.Idx → Elt F e) : sProp 𝕄 :=
  owns (c.tc : Thread nD τ) M fullShare X

/-- The normalising body. -/
theorem norm_run (M0 : Memref sig .tc .vmem S1024x64 .f32) (h0 : M0.IsWhole) (M1 : Memref sig .tc .vmem S1024x64 .bf16) (h1 : M1.IsWhole)
    (X0 : Vec F S1024x64 .f32) (X1 : Vec F S1024x64 .bf16) (Q : PUnit → sProp 𝕄) :
    iprop(ow c M0 X0 ∗ ow c M1 X1 ∗ (iprop(ow c M0 X0 ∗ ow c M1 (k0_pay1 X0)) -∗ Q ⟨⟩))
      ⊢ wp frame (wpE (defs₀ (F := F)) 𝒱₀ (c.tc : Thread nD τ) none) Set.univ (cc0__norm_kernel (F := F) M0 h0 M1 h1) Q := by
  unfold ow owns
  rw [h0.set_eq_univ, h1.set_eq_univ]
  iintro ⟨⟨%f0, %e0, H0⟩, ⟨%f1, %e1, H1⟩, Hk⟩
  simp only [cc0__norm_kernel_eq_skeleton]; unfold cc0__norm_kernel_skel
  sl_exec!
  sl_step
  iapply Hk
  isplitl [H0]
  · iexists f0; isplitr; · ipureintro; exact e0
    iexact H0
  iexists _; isplitr; swap; · iexact H1
  ipureintro
  refine (View.read_writes_full M1.view _ inb_S1024x64_S1024x64_0_0 _ _).trans ?_
  exact congrArg k0_pay1 ((View.readAt_full M0.view f0 inb_S1024x64_S1024x64_0_0).trans e0)

/-- The summing body at the first block: it writes the block's sum. -/
theorem lse_first (i : grid1.Coords) (hi : k1_cond1 i = 1#1) (hi' : ¬ k1_cond2 i = 1#1)
    (M0 : Memref sig .tc .vmem S1024x64 .bf16) (h0 : M0.IsWhole) (M1 : Memref sig .tc .vmem S4000x64 .f32) (h1 : M1.IsWhole)
    (M2 : Memref sig .tc .vmem S1024x128 .f32) (h2 : M2.IsWhole) (M3 : Memref sig .tc .vmem S2000x128 .f32) (h3 : M3.IsWhole)
    (X0 : Vec F S1024x64 .bf16) (X1 : Vec F S4000x64 .f32) (X2 : Vec F S1024x128 .f32) (X3 : Vec F S2000x128 .f32) (Q : PUnit → sProp 𝕄) :
    iprop(ow c M0 X0 ∗ ow c M1 X1 ∗ ow c M2 X2 ∗ ow c M3 X3
        ∗ (iprop(ow c M0 X0 ∗ ow c M1 X1 ∗ ow c M2 (chunkSum X0 X1) ∗ ow c M3 (k1_pay5 X1)) -∗ Q ⟨⟩))
      ⊢ wp frame (wpE (defs₀ (F := F)) 𝒱₀ (c.tc : Thread nD τ) none) Set.univ (cc1__lse_kernel (F := F) i M0 h0 M1 h1 M2 h2 M3 h3) Q := by
  unfold ow owns
  rw [h0.set_eq_univ, h1.set_eq_univ, h2.set_eq_univ, h3.set_eq_univ]
  iintro ⟨⟨%f0, %e0, H0⟩, ⟨%f1, %e1, H1⟩, ⟨%f2, %e2, H2⟩, ⟨%f3, %e3, H3⟩, Hk⟩
  simp only [cc1__lse_kernel_eq_skeleton, k1_part1_eq_skeleton]; unfold cc1__lse_kernel_skel
  simp only [k1_part1_eq_skeleton]; unfold k1_part1_skel
  simp only [dif_pos hi, dif_neg hi']
  sl_exec!
  sl_step
  iapply Hk
  isplitl [H0]
  · iexists f0; isplitr; · ipureintro; exact e0
    iexact H0
  isplitl [H1]
  · iexists f1; isplitr; · ipureintro; exact e1
    iexact H1
  isplitl [H2]
  · iexists _; isplitr; swap; · iexact H2
    ipureintro
    refine (View.read_writes_full M2.view _ inb_S1024x128_S1024x128_0_0 _ _).trans ?_
    exact congrArg₂ chunkSum ((View.readAt_full M0.view f0 inb_S1024x64_S1024x64_0_0).trans e0) ((View.readAt_full M1.view f1 inb_S4000x64_S4000x64_0_0).trans e1)
  iexists _; isplitr; swap; · iexact H3
  ipureintro
  refine (View.read_writes_full M3.view _ inb_S2000x128_S2000x128_0_0 _ _).trans ?_
  exact congrArg k1_pay5 ((View.readAt_full M1.view f1 inb_S4000x64_S4000x64_0_0).trans e1)

/-- The combining body. -/
theorem combine_run (M0 : Memref sig .tc .vmem S1024x64 .bf16) (h0 : M0.IsWhole) (M1 : Memref sig .tc .vmem S1024x128 .f32) (h1 : M1.IsWhole)
    (M2 : Memref sig .tc .vmem S1024x1 .f32) (h2 : M2.IsWhole) (M3 : Memref sig .tc .vmem S1024x128 .f32) (h3 : M3.IsWhole)
    (M4 : Memref sig .tc .vmem S1x1 .f32) (h4 : M4.IsWhole)
    (X0 : Vec F S1024x64 .bf16) (X1 : Vec F S1024x128 .f32) (X2 : Vec F S1024x1 .f32) (X3 : Vec F S1024x128 .f32) (X4 : Vec F S1x1 .f32) (Q : PUnit → sProp 𝕄) :
    iprop(ow c M0 X0 ∗ ow c M1 X1 ∗ ow c M2 X2 ∗ ow c M3 X3 ∗ ow c M4 X4
        ∗ (iprop(ow c M0 X0 ∗ ow c M1 X1 ∗ ow c M2 X2 ∗ ow c M3 X3 ∗ ow c M4 (k3_pay1 X0 X1 X2 X3)) -∗ Q ⟨⟩))
      ⊢ wp frame (wpE (defs₀ (F := F)) 𝒱₀ (c.tc : Thread nD τ) none) Set.univ (cc3__combine_kernel (F := F) M0 h0 M1 h1 M2 h2 M3 h3 M4 h4) Q := by
  unfold ow owns
  rw [h0.set_eq_univ, h1.set_eq_univ, h2.set_eq_univ, h3.set_eq_univ, h4.set_eq_univ]
  iintro ⟨⟨%f0, %e0, H0⟩, ⟨%f1, %e1, H1⟩, ⟨%f2, %e2, H2⟩, ⟨%f3, %e3, H3⟩, ⟨%f4, %e4, H4⟩, Hk⟩
  simp only [cc3__combine_kernel_eq_skeleton]; unfold cc3__combine_kernel_skel
  sl_exec!
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists _; isplitr; swap; · iexact H4
  ipureintro
  refine (View.read_writes_full M4.view _ inb_S1x1_S1x1_0_0 _ _).trans ?_
  have r0 := (View.readAt_full M0.view f0 inb_S1024x64_S1024x64_0_0).trans e0
  have r1 := (View.readAt_full M1.view f1 inb_S1024x128_S1024x128_0_0).trans e1
  have r2 := (View.readAt_full M2.view f2 inb_S1024x1_S1024x1_0_0).trans e2
  have r3 := (View.readAt_full M3.view f3 inb_S1024x128_S1024x128_0_0).trans e3
  refine Eq.trans ?_ (congr (congr (congrArg₂ k3_pay1 r0 r1) r2) r3)
  rfl

/-- The summing body at a later block: it adds the block's sum to what the buffer holds. -/
theorem lse_next (i : grid1.Coords) (hi : ¬ k1_cond1 i = 1#1) (hi' : k1_cond2 i = 1#1)
    (M0 : Memref sig .tc .vmem S1024x64 .bf16) (h0 : M0.IsWhole) (M1 : Memref sig .tc .vmem S4000x64 .f32) (h1 : M1.IsWhole)
    (M2 : Memref sig .tc .vmem S1024x128 .f32) (h2 : M2.IsWhole) (M3 : Memref sig .tc .vmem S2000x128 .f32) (h3 : M3.IsWhole)
    (X0 : Vec F S1024x64 .bf16) (X1 : Vec F S4000x64 .f32) (X2 : Vec F S1024x128 .f32) (X3 : Vec F S2000x128 .f32) (Q : PUnit → sProp 𝕄) :
    iprop(ow c M0 X0 ∗ ow c M1 X1 ∗ ow c M2 X2 ∗ ow c M3 X3
        ∗ (iprop(ow c M0 X0 ∗ ow c M1 X1 ∗ ow c M2 (k1_pay4 (chunkSum X0 X1) X2) ∗ ow c M3 (k1_pay5 X1)) -∗ Q ⟨⟩))
      ⊢ wp frame (wpE (defs₀ (F := F)) 𝒱₀ (c.tc : Thread nD τ) none) Set.univ (cc1__lse_kernel (F := F) i M0 h0 M1 h1 M2 h2 M3 h3) Q := by
  unfold ow owns
  rw [h0.set_eq_univ, h1.set_eq_univ, h2.set_eq_univ, h3.set_eq_univ]
  iintro ⟨⟨%f0, %e0, H0⟩, ⟨%f1, %e1, H1⟩, ⟨%f2, %e2, H2⟩, ⟨%f3, %e3, H3⟩, Hk⟩
  simp only [cc1__lse_kernel_eq_skeleton, k1_part1_eq_skeleton]; unfold cc1__lse_kernel_skel
  simp only [k1_part1_eq_skeleton]; unfold k1_part1_skel
  simp only [dif_neg hi, dif_pos hi']
  sl_exec!
  sl_step
  iapply Hk
  isplitl [H0]
  · iexists f0; isplitr; · ipureintro; exact e0
    iexact H0
  isplitl [H1]
  · iexists f1; isplitr; · ipureintro; exact e1
    iexact H1
  isplitl [H2]
  · iexists _; isplitr; swap; · iexact H2
    ipureintro
    refine (View.read_writes_full M2.view _ inb_S1024x128_S1024x128_0_0 _ _).trans ?_
    refine congrArg₂ k1_pay4 (congrArg₂ chunkSum ((View.readAt_full M0.view f0 inb_S1024x64_S1024x64_0_0).trans e0) ((View.readAt_full M1.view f1 inb_S4000x64_S4000x64_0_0).trans e1)) ?_
    exact (View.readAt_full M2.view f2 inb_S1024x128_S1024x128_0_0).trans e2
  iexists _; isplitr; swap; · iexact H3
  ipureintro
  refine (View.read_writes_full M3.view _ inb_S2000x128_S2000x128_0_0 _ _).trans ?_
  exact congrArg k1_pay5 ((View.readAt_full M1.view f1 inb_S4000x64_S4000x64_0_0).trans e1)

end Cert.ScLoss

end
-- ==== Proof.Regions.lean ====
/-
  The three TensorCore regions: their proof data over what the buffers hold at entry, what the bodies
  leave point by point, and the regions as steps from one valuation of the buffers to the next.
-/
module

public import proofs.«01_k».proof.Proof.Bodies
public import Idealize.ShloMosaic.Lib.Pipeline.RegionsLoop
public import Idealize.ShloMosaic.Lib.Pipeline.FrameBody
public import Idealize.ShloMosaic.Lib.Pipeline.Covers

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open scoped Idealize.ShloMosaic.TcCoe

variable {F : FTy → Type} [FloatOps F] [Named F]

local notation "𝕄" => MT nD τ sig (HIx 1) (Elt F) ℕ (UU F) ℕ

attribute [local irreducible] Pipeline.scopedRest Pipeline.unscopedRest

abbrev VV (F : FTy → Type) : Type := Dev nD → Valuation τ sig (Elt F)

/-- What the TensorCore owes before SparseCore call `n`, and the bound on what its waits have recorded. -/
abbrev owing (c : Dev nD) (n : ℕ) : CellTallies nD τ sig (HIx 1) := (K (F := F)).Otc c n
abbrev waited (c : Dev nD) (n : ℕ) : Set (SemLoc sig × HIx 1) := {p | (K (F := F)).lev (SparseCore.T c, p.1) p.2 ≤ 8 * n}
abbrev owesN (c : Dev nD) (n : ℕ) : sProp 𝕄 :=
  iprop(∃ W, ⌜(K (F := F)).WBelow (SparseCore.T c) W (8 * n)⌝ ∗ owes (SparseCore.T c) (owing (F := F) c n) W)

theorem owing_none (c : Dev nD) (n : ℕ) (g : GSem nD τ sig) : owing (F := F) c n g none = 0 := by
  by_contra h
  have := SparseCore.Cfg.lev_of_Otc_pos (K := K (F := F)) (Nat.pos_of_ne_zero h)
  rw [SparseCore.Cfg.lev_none] at this; omega

variable (W : VV F) (c : Dev nD)

/-! ## The proof data -/

abbrev adm : (p : Fin 3) → (pcfgs (F := F) p).Adm := fun p => (cfgs p).toPCfg_adm

/-- The first region: the normalised inputs. -/
def dat0 : Pipeline.Dat τ (Elt F) (HIx 1) ℕ (UU F) ℕ cfg0 c where
  A w := W c (cfg0.win w).arr.view.ref
  after w _ := match w with
    | ⟨0, _⟩ => W c main_arg0
    | ⟨1, _⟩ => k0_pay1 (W c main_arg0 : Vec F S1024x64 .f32)
  Φ _ := Pipeline.scopedRest (Pipeline.pin (pcfgs (F := F)) adm 0).spec c
  q _ := fullShare
  owed _ := owing (F := F) c 0
  recorded _ := waited (F := F) c 0

/-- The block of the features the second region reads at point `t`. -/
def fBlk (t : Fin cfg1.N) : Vec F S4000x64 .f32 := ((cfg1.win 1).blk t).view.read (Elt F) (W c main_arg4)
def fBlkN (n : ℕ) : Vec F S4000x64 .f32 := fBlk W c ⟨n % 25, by rw [show cfg1.N = 25 from N_1]; exact Nat.mod_lt _ (by decide)⟩
/-- The running sum after point `n`. -/
def accN : ℕ → Vec F S1024x128 .f32
  | 0 => chunkSum (W c main_v0) (fBlkN W c 0)
  | n + 1 => k1_pay4 (chunkSum (W c main_v0) (fBlkN W c (n + 1))) (accN n)

/-- The second region: the running sum of exponentials and the packed table. -/
def dat1 : Pipeline.Dat τ (Elt F) (HIx 1) ℕ (UU F) ℕ cfg1 c where
  A w := W c (cfg1.win w).arr.view.ref
  after w t := match w with
    | ⟨0, _⟩ => W c main_v0
    | ⟨1, _⟩ => fBlk W c t
    | ⟨2, _⟩ => accN W c t.val
    | ⟨3, _⟩ => k1_pay5 (fBlk W c t)
  Φ _ := Pipeline.scopedRest (Pipeline.pin (pcfgs (F := F)) adm 1).spec c
  q _ := fullShare
  owed _ := owing (F := F) c 0
  recorded _ := waited (F := F) c 0

/-- The last region: the loss. -/
def dat3 : Pipeline.Dat τ (Elt F) (HIx 1) ℕ (UU F) ℕ cfg3 c where
  A w := W c (cfg3.win w).arr.view.ref
  after w _ := match w with
    | ⟨0, _⟩ => W c main_v0
    | ⟨1, _⟩ => W c main_v13
    | ⟨2, _⟩ => W c main_v11
    | ⟨3, _⟩ => W c main_v1_0
    | ⟨4, _⟩ => k3_pay1 (W c main_v0 : Vec F S1024x64 .bf16) (W c main_v13 : Vec F S1024x128 .f32) (W c main_v11 : Vec F S1024x1 .f32) (W c main_v1_0 : Vec F S1024x128 .f32)
  Φ _ := Pipeline.scopedRest (Pipeline.pin (pcfgs (F := F)) adm 2).spec c
  q _ := fullShare
  owed _ := owing (F := F) c 1
  recorded _ := waited (F := F) c 1

def pdats (W0 W1 W3 : VV F) : (p : Fin 3) → (c : Dev nD) → Pipeline.Dat τ (Elt F) (HIx 1) ℕ (UU F) ℕ (Pipeline.pin (pcfgs (F := F)) adm p) c
  | 0 => dat0 W0
  | 1 => dat1 W1
  | 2 => dat3 W3

/-! ## What the bodies find -/

theorem blk0_0 (t : Fin cfg0.N) (f : Vec F S1024x64 .f32) : ((cfg0.win 0).blk t).view.read (Elt F) f = f := by
  funext j
  refine congrArg f (?_ : _ = j)
  funext a; apply Fin.ext
  refine ((cfg0.win 0).rect_emb_val_of_index_zero t a ?_ j)
  fin_cases a <;> rfl
theorem blk1_0 (t : Fin cfg1.N) (f : Vec F S1024x64 .bf16) : ((cfg1.win 0).blk t).view.read (Elt F) f = f := by
  funext j
  refine congrArg f (?_ : _ = j)
  funext a; apply Fin.ext
  refine ((cfg1.win 0).rect_emb_val_of_index_zero t a ?_ j)
  fin_cases a <;> rfl
theorem blk3_0 (t : Fin cfg3.N) (f : Vec F S1024x64 .bf16) : ((cfg3.win 0).blk t).view.read (Elt F) f = f := by
  funext j
  refine congrArg f (?_ : _ = j)
  funext a; apply Fin.ext
  refine ((cfg3.win 0).rect_emb_val_of_index_zero t a ?_ j)
  fin_cases a <;> rfl
theorem blk3_1 (t : Fin cfg3.N) (f : Vec F S1024x128 .f32) : ((cfg3.win 1).blk t).view.read (Elt F) f = f := by
  funext j
  refine congrArg f (?_ : _ = j)
  funext a; apply Fin.ext
  refine ((cfg3.win 1).rect_emb_val_of_index_zero t a ?_ j)
  fin_cases a <;> rfl
theorem blk3_2 (t : Fin cfg3.N) (f : Vec F S1024x1 .f32) : ((cfg3.win 2).blk t).view.read (Elt F) f = f := by
  funext j
  refine congrArg f (?_ : _ = j)
  funext a; apply Fin.ext
  refine ((cfg3.win 2).rect_emb_val_of_index_zero t a ?_ j)
  fin_cases a <;> rfl
theorem blk3_3 (t : Fin cfg3.N) (f : Vec F S1024x128 .f32) : ((cfg3.win 3).blk t).view.read (Elt F) f = f := by
  funext j
  refine congrArg f (?_ : _ = j)
  funext a; apply Fin.ext
  refine ((cfg3.win 3).rect_emb_val_of_index_zero t a ?_ j)
  fin_cases a <;> rfl

theorem before0_0 (t d) : (dat0 W c).before 0 t d = (W c main_arg0 : Vec F S1024x64 .f32) :=
  ((dat0 W c).before_fetched 0 t (fetch0_0 _) d).trans (blk0_0 t (W c main_arg0))
theorem before1_0 (t d) : (dat1 W c).before 0 t d = (W c main_v0 : Vec F S1024x64 .bf16) :=
  ((dat1 W c).before_in_eq_fetched 0 rfl (fun _ => rfl) (fun _ _ _ => rfl) (fun t => (blk1_0 t (W c main_v0)).symm) t d).trans (blk1_0 t (W c main_v0))
theorem before1_1 (t d) : (dat1 W c).before 1 t d = fBlk W c t :=
  (dat1 W c).before_fetched 1 t (fetch1_1 _) d
theorem before3_0 (t d) : (dat3 W c).before 0 t d = (W c main_v0 : Vec F S1024x64 .bf16) :=
  ((dat3 W c).before_fetched 0 t (fetch3_0 _) d).trans (blk3_0 t (W c main_v0))
theorem before3_1 (t d) : (dat3 W c).before 1 t d = (W c main_v13 : Vec F S1024x128 .f32) :=
  ((dat3 W c).before_fetched 1 t (fetch3_1 _) d).trans (blk3_1 t (W c main_v13))
theorem before3_2 (t d) : (dat3 W c).before 2 t d = (W c main_v11 : Vec F S1024x1 .f32) :=
  ((dat3 W c).before_fetched 2 t (fetch3_2 _) d).trans (blk3_2 t (W c main_v11))
theorem before3_3 (t d) : (dat3 W c).before 3 t d = (W c main_v1_0 : Vec F S1024x128 .f32) :=
  ((dat3 W c).before_fetched 3 t (fetch3_3 _) d).trans (blk3_3 t (W c main_v1_0))

theorem coords1 : ∀ t : Fin cfg1.N, ((grid1.coords t) 0).val = t.val := by decide
theorem cond1_iff : ∀ t : Fin cfg1.N, k1_cond1 (grid1.coords t) = 1#1 ↔ t.val = 0 := by decide
theorem cond2_iff : ∀ t : Fin cfg1.N, k1_cond2 (grid1.coords t) = 1#1 ↔ t.val ≠ 0 := by decide
theorem live1_2 : ∀ t : Fin cfg1.N, cfg1.idle 2 (grid1.coords t) = false := by
  intro t
  show (!(k1_cond1 (grid1.coords t) == 1#1) && !(k1_cond2 (grid1.coords t) == 1#1)) = false
  by_cases h : t.val = 0
  · rw [(cond1_iff t).mpr h]; rfl
  · rw [(cond2_iff t).mpr h]; simp
theorem live1_2' (i : cfg1.grid.Coords) : cfg1.idle 2 i = false := by
  obtain ⟨t, rfl⟩ := cfg1.grid.coords_surjective i
  exact live1_2 t

theorem fBlkN_val (t : Fin cfg1.N) : fBlkN W c t.val = fBlk W c t := by
  unfold fBlkN; congr 1; apply Fin.ext
  exact Nat.mod_eq_of_lt (N_1 ▸ t.isLt)
theorem before1_2 (t : Fin cfg1.N) (ht : t.val ≠ 0) (d) : (dat1 W c).before 2 t d = accN W c (t.val - 1) :=
  (dat1 W c).before_out_kept 2 rfl t ht (by
    rw [Bool.eq_false_iff]; intro h
    have h := (flush1_2 _).mp h
    have ht' : t.val < 25 := N_1 ▸ t.isLt
    simp only at h; omega) live1_2' (fun _ _ => rfl) d

/-! ## The bodies -/

theorem body0 : Pipeline.BodyObligation (dat0 W c) defs₀ 𝒱₀ none Set.univ := by
  intro t
  rw [bigSep_W0, bigSep_W0]
  rw [show (dat0 W c).owesAt none t.succ = (dat0 W c).owesAt none t.castSucc from rfl, show (dat0 W c).Φ t.succ = (dat0 W c).Φ t.castSucc from rfl]
  iintro ⟨HΦ, HO, ⟨%d0, H0⟩, %d1, H1⟩
  rw [before0_0]
  iapply (norm_run c _ (hstage0_0 0) _ (hstage0_1 0) _ _ _)
  isplitl [H0]; · iexact H0
  isplitl [H1]; · iexact H1
  iintro ⟨H0, H1⟩
  isplitl [HΦ]; · iexact HΦ
  isplitl [HO]; · iexact HO
  isplitl [H0]; · iexact H0
  iexact H1

theorem body1 : Pipeline.BodyObligation (dat1 W c) defs₀ 𝒱₀ none Set.univ := by
  intro t
  rw [bigSep_W1, bigSep_W1]
  rw [show (dat1 W c).owesAt none t.succ = (dat1 W c).owesAt none t.castSucc from rfl, show (dat1 W c).Φ t.succ = (dat1 W c).Φ t.castSucc from rfl]
  iintro ⟨HΦ, HO, ⟨%d0, H0⟩, ⟨%d1, H1⟩, ⟨%d2, H2⟩, %d3, H3⟩
  rw [before1_0, before1_1]
  have hl : idle1 2 (grid1.coords t) = false := live1_2 t
  simp only [hl]
  by_cases ht : t.val = 0
  · iapply (lse_first c (grid1.coords t) ((cond1_iff t).mpr ht) (fun h => (cond2_iff t).mp h ht) _ (hstage1_0 ((cfg1.slots t 0).cast nbuf1_0))
      _ (hstage1_1 ((cfg1.slots t 1).cast nbuf1_1)) _ (hstage1_2 ((cfg1.slots t 2).cast nbuf1_2)) _ (hstage1_3 ((cfg1.slots t 3).cast nbuf1_3)) _ _ _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [HO]; · iexact HO
    isplitl [H0]; · iexact H0
    isplitl [H1]; · iexact H1
    isplitl [H2]
    · rw [show (dat1 W c).after 2 t = chunkSum (W c main_v0) (fBlk W c t) by
        show accN W c t.val = _
        rw [← fBlkN_val, ht]; rfl]
      iexact H2
    iexact H3
  · rw [before1_2 W c t ht]
    iapply (lse_next c (grid1.coords t) (fun h => ht ((cond1_iff t).mp h)) ((cond2_iff t).mpr ht) _ (hstage1_0 ((cfg1.slots t 0).cast nbuf1_0))
      _ (hstage1_1 ((cfg1.slots t 1).cast nbuf1_1)) _ (hstage1_2 ((cfg1.slots t 2).cast nbuf1_2)) _ (hstage1_3 ((cfg1.slots t 3).cast nbuf1_3)) _ _ _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [HO]; · iexact HO
    isplitl [H0]; · iexact H0
    isplitl [H1]; · iexact H1
    isplitl [H2]
    · rw [show (dat1 W c).after 2 t = k1_pay4 (chunkSum (W c main_v0) (fBlk W c t)) (accN W c (t.val - 1)) by
        show accN W c t.val = _
        rw [← fBlkN_val]
        obtain ⟨n, hn⟩ := Nat.exists_eq_succ_of_ne_zero ht
        rw [hn]; rfl]
      iexact H2
    iexact H3

theorem body3 : Pipeline.BodyObligation (dat3 W c) defs₀ 𝒱₀ none Set.univ := by
  intro t
  rw [bigSep_W3, bigSep_W3]
  rw [show (dat3 W c).owesAt none t.succ = (dat3 W c).owesAt none t.castSucc from rfl, show (dat3 W c).Φ t.succ = (dat3 W c).Φ t.castSucc from rfl]
  iintro ⟨HΦ, HO, ⟨%d0, H0⟩, ⟨%d1, H1⟩, ⟨%d2, H2⟩, ⟨%d3, H3⟩, %d4, H4⟩
  rw [before3_0, before3_1, before3_2, before3_3]
  iapply (combine_run c _ (hstage3_0 0) _ (hstage3_1 0)
    _ (hstage3_2 0) _ (hstage3_3 0) _ (hstage3_4 0) _ _ _ _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-! ## The regions as steps between valuations -/

/-- The buffers after each region. -/
def X0 (c : Dev nD) : Valuation τ sig (Elt F) := Function.update (W c) (Proc.devRef .tc main_v0) ((dat0 W c).arrAt 1 cfg0.N)
def X1 (c : Dev nD) : Valuation τ sig (Elt F) :=
  Function.update (Function.update (W c) (Proc.devRef .tc main_v1_0) ((dat1 W c).arrAt 2 cfg1.N)) (Proc.devRef .tc main_v1_1) ((dat1 W c).arrAt 3 cfg1.N)
def X3 (c : Dev nD) : Valuation τ sig (Elt F) := Function.update (W c) (Proc.devRef .tc main_v14) ((dat3 W c).arrAt 4 cfg3.N)

/-- What a region takes and gives back: the buffers at a valuation, and what is owed. -/
abbrev rpre (V : Valuation τ sig (Elt F)) (n : ℕ) (c : Dev nD) : sProp 𝕄 :=
  iprop(unscopedBufs c (fun b => V b) ∗ owesN (F := F) c n)

variable (W0 W1 W3 : VV F)

theorem upd_ne {V : Valuation τ sig (Elt F)} {r b : Ref sig .tc} (x) (h : b ≠ r) :
    Function.update V (Proc.devRef .tc r) x b = V b :=
  Function.update_of_ne (fun e => h (Proc.devRef_injective _ e)) _ _

/-- Entering a region. -/
theorem entry_owes (n : ℕ) {cfg : Pipeline.Cfg sig Λ₀} (dat : Pipeline.Dat τ (Elt F) (HIx 1) ℕ (UU F) ℕ cfg c)
    (t : Fin (cfg.N + 1)) (ho : dat.owed t = owing (F := F) c n) (hr : dat.recorded t = waited (F := F) c n) :
    owesN (F := F) c n ⊢ dat.owesAt none t := by
  unfold Pipeline.Dat.owesAt Pipeline.owesWithin
  iintro ⟨%R, %hR, HO⟩
  iexists R
  isplitr
  · ipureintro
    intro p hp
    exact Or.inl (hr ▸ hR p hp)
  rw [ho]; iexact HO

/-- Leaving one: the pipeline's own waits sit at level zero. -/
theorem exit_owes (n : ℕ) {cfg : Pipeline.Cfg sig Λ₀} (dat : Pipeline.Dat τ (Elt F) (HIx 1) ℕ (UU F) ℕ cfg c)
    (t : Fin (cfg.N + 1)) (ho : dat.owed t = owing (F := F) c n) (hr : dat.recorded t = waited (F := F) c n) :
    dat.owesAt none t ⊢ owesN (F := F) c n := by
  unfold Pipeline.Dat.owesAt Pipeline.owesWithin
  iintro ⟨%R, %hR, HO⟩
  iexists R
  isplitr
  · ipureintro
    intro p hp
    rcases hR hp with h | h
    · rw [hr] at h; exact h
    · obtain ⟨w, s, rfl⟩ := h
      rw [SparseCore.Cfg.lev_none]; exact Nat.zero_le _
  rw [ho]; iexact HO

theorem pref_emp (p : Fin 3) : (BI.emp : sProp 𝕄) ⊢ Pipeline.prefHeld (pcfgs (F := F) p).pre c (fun _ => fullShare) (adm p).1 := by
  fin_cases p <;>
  · unfold Pipeline.prefHeld; rw [show (Finset.univ : Finset (Fin 0)) = ∅ from rfl, BI.bigSep_empty]

theorem last_of3 (A B C : sProp 𝕄) : iprop(A ∗ B ∗ C) ⊢ C := by iintro ⟨-, -, H⟩; iexact H
theorem with_emps (C : sProp 𝕄) : C ⊢ iprop(emp ∗ emp ∗ C) := by
  iintro H
  isplitr; · iempintro
  isplitr; · iempintro
  iexact H

abbrev pd (W0 W1 W3 : VV F) := pdats W0 W1 W3

def reg0 : Pipeline.RegionSeg (pcfgs (F := F)) adm (pd W0 W1 W3) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 W0 c).loose
  hwaits c := Pipeline.cellsWaits_intro _ _ _ _ _ fun w s t => (K (F := F)).mayWait_none _ fun g => owing_none c 0 g
  pre c := rpre (W0 c) 0 c
  post c := rpre (X0 W0 c) 0 c
  X _ := iprop(emp)
  Y _ := iprop(emp)
  Z c := Pipeline.unscopedRest (Ix := HIx 1) (Name := ℕ) (U := UU F) (Lvl := ℕ) spec0 c (fun b => W0 c b)
  hentry c := by
    rw [Pipeline.ownSems0_none]
    have hsplit := Pipeline.arrays_of_unscopedBufs (p := 0) (pcfgs (F := F)) adm (pd W0 W1 W3) launch0.win launch0.arr_whole c
      ((pd W0 W1 W3 0 c).share_full fun _ => rfl) (fun b => W0 c b) fun _ => rfl
    iintro ⟨⟨Hub, HO⟩, -, -⟩
    ihave H := hsplit $$ Hub
    icases H with ⟨Ha, Hr⟩
    imodintro
    isplitl [Ha]; · iexact Ha
    isplitr; · iapply (pref_emp c 0); iempintro
    isplitl [HO]; · iapply (entry_owes c 0 (dat0 W0 c) 0 rfl rfl) $$ HO
    isplitr; · iempintro
    iexact Hr
  hin c := last_of3 _ _ _
  hout c := by
    rw [Pipeline.ownSems0_none]
    exact with_emps _
  hexit c := by
    have hjoin := Pipeline.unscopedBufs_of_arrays (p := 0) (pcfgs (F := F)) adm launch0.win launch0.arr_whole c (pd W0 W1 W3)
      ((pd W0 W1 W3 0 c).share_full fun _ => rfl) (fun b => W0 c b) (fun b => X0 W0 c b) ((dat0 W0 c).arrAt · cfg0.N)
      (fun w => by
        match w with
        | ⟨0, _⟩ => exact ((dat0 W0 c).arrAt_in 0 rfl _).trans (upd_ne _ (by decide)).symm
        | ⟨1, _⟩ => exact (Function.update_self (β := fun b => Buf (Elt F) ((c, b) : Loc nD τ sig)) (Proc.devRef .tc main_v0) _ (W0 c)).symm)
      (fun b hb => upd_ne _ fun e => hb (Finset.mem_image.mpr ⟨1, Finset.mem_univ _, e.symm⟩))
    iintro ⟨Ha, HO, -, Hr⟩
    imodintro
    isplitl [Ha Hr]
    · iapply hjoin; isplitl [Ha]; · iexact Ha
      iexact Hr
    iapply (show (pd W0 W1 W3 0 c).owesAt none (Fin.last _) ⊢ owesN (F := F) c 0 from exit_owes c 0 (dat0 W0 c) (Fin.last _) rfl rfl) $$ HO

def reg1 : Pipeline.RegionSeg (pcfgs (F := F)) adm (pd W0 W1 W3) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body1 W1 c).loose
  hwaits c := Pipeline.cellsWaits_intro _ _ _ _ _ fun w s t => (K (F := F)).mayWait_none _ fun g => owing_none c 0 g
  pre c := rpre (W1 c) 0 c
  post c := rpre (X1 W1 c) 0 c
  X _ := iprop(emp)
  Y _ := iprop(emp)
  Z c := Pipeline.unscopedRest (Ix := HIx 1) (Name := ℕ) (U := UU F) (Lvl := ℕ) spec1 c (fun b => W1 c b)
  hentry c := by
    rw [Pipeline.ownSems0_none]
    have hsplit := Pipeline.arrays_of_unscopedBufs (p := 1) (pcfgs (F := F)) adm (pd W0 W1 W3) launch1.win launch1.arr_whole c
      ((pd W0 W1 W3 1 c).share_full fun _ => rfl) (fun b => W1 c b) fun _ => rfl
    iintro ⟨⟨Hub, HO⟩, -, -⟩
    ihave H := hsplit $$ Hub
    icases H with ⟨Ha, Hr⟩
    imodintro
    isplitl [Ha]; · iexact Ha
    isplitr; · iapply (pref_emp c 1); iempintro
    isplitl [HO]; · iapply (entry_owes c 0 (dat1 W1 c) 0 rfl rfl) $$ HO
    isplitr; · iempintro
    iexact Hr
  hin c := last_of3 _ _ _
  hout c := by
    rw [Pipeline.ownSems0_none]
    exact with_emps _
  hexit c := by
    have hjoin := Pipeline.unscopedBufs_of_arrays (p := 1) (pcfgs (F := F)) adm launch1.win launch1.arr_whole c (pd W0 W1 W3)
      ((pd W0 W1 W3 1 c).share_full fun _ => rfl) (fun b => W1 c b) (fun b => X1 W1 c b) ((dat1 W1 c).arrAt · cfg1.N)
      (fun w => by
        match w with
        | ⟨0, _⟩ => exact ((dat1 W1 c).arrAt_in 0 rfl _).trans ((upd_ne _ (by decide)).trans (upd_ne _ (by decide))).symm
        | ⟨1, _⟩ => exact ((dat1 W1 c).arrAt_in 1 rfl _).trans ((upd_ne _ (by decide)).trans (upd_ne _ (by decide))).symm
        | ⟨2, _⟩ => exact ((upd_ne _ (by decide)).trans (Function.update_self (β := fun b => Buf (Elt F) ((c, b) : Loc nD τ sig)) (Proc.devRef .tc main_v1_0) _ (W1 c))).symm
        | ⟨3, _⟩ => exact (Function.update_self (β := fun b => Buf (Elt F) ((c, b) : Loc nD τ sig)) (Proc.devRef .tc main_v1_1) _ _).symm)
      (fun b hb => (upd_ne _ fun e => hb (Finset.mem_image.mpr ⟨3, Finset.mem_univ _, e.symm⟩)).trans
        (upd_ne _ fun e => hb (Finset.mem_image.mpr ⟨2, Finset.mem_univ _, e.symm⟩)))
    iintro ⟨Ha, HO, -, Hr⟩
    imodintro
    isplitl [Ha Hr]
    · iapply hjoin; isplitl [Ha]; · iexact Ha
      iexact Hr
    iapply (show (pd W0 W1 W3 1 c).owesAt none (Fin.last _) ⊢ owesN (F := F) c 0 from exit_owes c 0 (dat1 W1 c) (Fin.last _) rfl rfl) $$ HO

def reg3 : Pipeline.RegionSeg (pcfgs (F := F)) adm (pd W0 W1 W3) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body3 W3 c).loose
  hwaits c := Pipeline.cellsWaits_intro _ _ _ _ _ fun w s t => (K (F := F)).mayWait_none _ fun g => owing_none c 1 g
  pre c := rpre (W3 c) 1 c
  post c := rpre (X3 W3 c) 1 c
  X _ := iprop(emp)
  Y _ := iprop(emp)
  Z c := Pipeline.unscopedRest (Ix := HIx 1) (Name := ℕ) (U := UU F) (Lvl := ℕ) spec3 c (fun b => W3 c b)
  hentry c := by
    rw [Pipeline.ownSems0_none]
    have hsplit := Pipeline.arrays_of_unscopedBufs (p := 2) (pcfgs (F := F)) adm (pd W0 W1 W3) launch3.win launch3.arr_whole c
      ((pd W0 W1 W3 2 c).share_full fun _ => rfl) (fun b => W3 c b) fun _ => rfl
    iintro ⟨⟨Hub, HO⟩, -, -⟩
    ihave H := hsplit $$ Hub
    icases H with ⟨Ha, Hr⟩
    imodintro
    isplitl [Ha]; · iexact Ha
    isplitr; · iapply (pref_emp c 2); iempintro
    isplitl [HO]; · iapply (entry_owes c 1 (dat3 W3 c) 0 rfl rfl) $$ HO
    isplitr; · iempintro
    iexact Hr
  hin c := last_of3 _ _ _
  hout c := by
    rw [Pipeline.ownSems0_none]
    exact with_emps _
  hexit c := by
    have hjoin := Pipeline.unscopedBufs_of_arrays (p := 2) (pcfgs (F := F)) adm launch3.win launch3.arr_whole c (pd W0 W1 W3)
      ((pd W0 W1 W3 2 c).share_full fun _ => rfl) (fun b => W3 c b) (fun b => X3 W3 c b) ((dat3 W3 c).arrAt · cfg3.N)
      (fun w => by
        match w with
        | ⟨0, _⟩ => exact ((dat3 W3 c).arrAt_in 0 rfl _).trans (upd_ne _ (by decide)).symm
        | ⟨1, _⟩ => exact ((dat3 W3 c).arrAt_in 1 rfl _).trans (upd_ne _ (by decide)).symm
        | ⟨2, _⟩ => exact ((dat3 W3 c).arrAt_in 2 rfl _).trans (upd_ne _ (by decide)).symm
        | ⟨3, _⟩ => exact ((dat3 W3 c).arrAt_in 3 rfl _).trans (upd_ne _ (by decide)).symm
        | ⟨4, _⟩ => exact (Function.update_self (β := fun b => Buf (Elt F) ((c, b) : Loc nD τ sig)) (Proc.devRef .tc main_v14) _ (W3 c)).symm)
      (fun b hb => upd_ne _ fun e => hb (Finset.mem_image.mpr ⟨4, Finset.mem_univ _, e.symm⟩))
    iintro ⟨Ha, HO, -, Hr⟩
    imodintro
    isplitl [Ha Hr]
    · iapply hjoin; isplitl [Ha]; · iexact Ha
      iexact Hr
    iapply (show (pd W0 W1 W3 2 c).owesAt none (Fin.last _) ⊢ owesN (F := F) c 1 from exit_owes c 1 (dat3 W3 c) (Fin.last _) rfl rfl) $$ HO

end Cert.ScLoss

end
-- ==== Proof.Words.lean ====
/-
  The control words of the SparseCore kernel, decided: a task below eight runs the pipelined loop
  exactly once, on slot zero of its two-slot scratches, at its own block of 128 indices and 128
  result rows; a task from eight on does nothing.
-/
module

public import proofs.«01_k».proof.Proof.Common

@[expose] public section

noncomputable section

namespace Cert.ScLoss

open Cert.KernelIdeal Cert.KernelIdeal.Gen

open Idealize.ShloMosaic

/-- A property of every coordinate of the second axis holds of the one at hand. -/
theorem sub_cases {p : Fin 16 → Prop} (h : ∀ w, p w) (i : grid2.Coords) : p (i 1) := h (i 1)

theorem cond1_lt (i : grid2.Coords) (hw : (i 1).val < 8) : k2_cond1 i = 1#1 := by
  revert hw; unfold k2_cond1; dsimp only; generalize i 1 = w; revert w; change ∀ w : Fin 16, _; decide
theorem cond1_ge (i : grid2.Coords) (hw : ¬(i 1).val < 8) : ¬ k2_cond1 i = 1#1 := by
  revert hw; unfold k2_cond1; dsimp only; generalize i 1 = w; revert w; change ∀ w : Fin 16, _; decide
theorem cond2_lt (i : grid2.Coords) (hw : (i 1).val < 8) : k2_cond2 i = 1#1 := by
  revert hw; unfold k2_cond2; dsimp only; generalize i 1 = w; revert w; change ∀ w : Fin 16, _; decide
theorem cond18_lt (i : grid2.Coords) (hw : (i 1).val < 8) : k2_cond18 i = 1#1 := by
  revert hw; unfold k2_cond18; dsimp only; generalize i 1 = w; revert w; change ∀ w : Fin 16, _; decide
theorem trips1_lt (i : grid2.Coords) (hw : (i 1).val < 8) : (k2_t1_loop i).trips = 1 := by
  revert hw; unfold k2_t1_loop; dsimp only; generalize i 1 = w; revert w; change ∀ w : Fin 16, _; decide
theorem trips2_lt (i : grid2.Coords) (hw : (i 1).val < 8) : (k2_t2_loop i).trips = 0 := by
  revert hw; unfold k2_t2_loop; dsimp only; generalize i 1 = w; revert w; change ∀ w : Fin 16, _; decide

theorem cond3_lt (i : grid2.Coords) (hw : (i 1).val < 8) (h : 0 < (k2_t1_loop i).trips) : ¬ k2_cond3 i ⟨0, h⟩ 0#32 = 1#1 := by
  revert hw; unfold k2_cond3; dsimp only; generalize i 1 = w; revert w; change ∀ w : Fin 16, _; decide
theorem cond4_lt (i : grid2.Coords) (hw : (i 1).val < 8) (h : 0 < (k2_t1_loop i).trips) : k2_cond4 i ⟨0, h⟩ 0#32 = 1#1 := by
  revert hw; unfold k2_cond4; dsimp only; generalize i 1 = w; revert w; change ∀ w : Fin 16, _; decide
theorem cond7_lt (i : grid2.Coords) (hw : (i 1).val < 8) (h : 0 < (k2_t1_loop i).trips) : k2_cond7 i ⟨0, h⟩ 0#32 = 1#1 := by
  revert hw; unfold k2_cond7; dsimp only; generalize i 1 = w; revert w; change ∀ w : Fin 16, _; decide
theorem cond9_lt (i : grid2.Coords) (hw : (i 1).val < 8) (h : 0 < (k2_t1_loop i).trips) : ¬ k2_cond9 i ⟨0, h⟩ 0#32 = 1#1 := by
  revert hw; unfold k2_cond9; dsimp only; generalize i 1 = w; revert w; change ∀ w : Fin 16, _; decide

theorem off2_lt (i : grid2.Coords) (hw : (i 1).val < 8) : k2_off2 i = ![0, 128 * (i 1).val] := by
  revert hw; unfold k2_off2; dsimp only; generalize i 1 = w; revert w; change ∀ w : Fin 16, _; decide
theorem off8_lt (i : grid2.Coords) (hw : (i 1).val < 8) : k2_off8 i 0#32 = ![0, 128 * (i 1).val] := by
  revert hw; unfold k2_off8; dsimp only; generalize i 1 = w; revert w; change ∀ w : Fin 16, _; decide
theorem off13_lt (i : grid2.Coords) (hw : (i 1).val < 8) : k2_off13 i 0#32 = ![128 * (i 1).val, 0] := by
  revert hw; unfold k2_off13; dsimp only; generalize i 1 = w; revert w; change ∀ w : Fin 16, _; decide
theorem off33_lt (i : grid2.Coords) (hw : (i 1).val < 8) : k2_off33 i 0#32 = ![128 * (i 1).val, 0] := by
  revert hw; unfold k2_off33; dsimp only; generalize i 1 = w; revert w; change ∀ w : Fin 16, _; decide

theorem chk3_lt (i : grid2.Coords) (t : Fin (k2_t1_loop i).trips) : k2_chk3 i t 0#32 := fun _ => by decide
theorem chk2_lt (i : grid2.Coords) (t : Fin (k2_t1_loop i).trips) : k2_chk2 i t 0#32 := fun _ => by decide
theorem chk1_lt (i : grid2.Coords) (hw : (i 1).val < 8) (h : 0 < (k2_t1_loop i).trips) : k2_chk1 i ⟨0, h⟩ 1#32 0#32 0#32 0#32 0#32 := by
  refine ⟨fun _ h3 => absurd h3 (cond3_lt i hw h), fun _ h3 => absurd h3 (cond3_lt i hw h), fun _ h3 => absurd h3 (cond3_lt i hw h),
    fun _ _ => by decide, fun _ _ => ?_, fun _ _ => by decide, fun _ _ => by decide, fun _ _ => ?_, fun _ _ => by decide,
    fun _ h9 => absurd h9 (cond9_lt i hw h), fun _ h9 => absurd h9 (cond9_lt i hw h), fun _ h9 => absurd h9 (cond9_lt i hw h)⟩
  · rw [off8_lt i hw]; exact sub_cases (p := fun w => w.val < 8 → ∀ a, (![0, 128 * w.val] : Fin 2 → ℕ) a + S1x128.size a ≤ S1x1024.size a) (by decide) i hw
  · rw [off13_lt i hw]; exact sub_cases (p := fun w => w.val < 8 → ∀ a, (![128 * w.val, 0] : Fin 2 → ℕ) a + S128x128.size a ≤ S1024x128.size a) (by decide) i hw
theorem chk8_lt (i : grid2.Coords) (hw : (i 1).val < 8) : k2_chk8 i 0#32 := fun _ _ => by
  rw [off33_lt i hw]; exact sub_cases (p := fun w => w.val < 8 → ∀ a, (![128 * w.val, 0] : Fin 2 → ℕ) a + S128x128.size a ≤ S1024x128.size a) (by decide) i hw
theorem chk7_lt (i : grid2.Coords) : k2_chk7 i 0#32 := ⟨fun _ _ => by decide, fun _ _ => by decide, fun _ _ => by decide⟩

end Cert.ScLoss

end
-- ==== Proof.Tile.lean ====
/-
  The task on one vector subcore: fetch of its 128 indices, the indirect gather of the table's rows they
  name, the copy of the gathered rows to its block of the result.
-/
module

public import proofs.«01_k».proof.Proof.Words

@[expose] public section

noncomputable section

namespace Cert.ScLoss

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

abbrev cV (L : grid2.Coords) : Fin τ.nSC := (L 0).castLE hcore2
abbrev jV (L : grid2.Coords) : Fin τ.nSub := (L 1).castLE hsub2
abbrev thrV (d : Dev nD) (L : grid2.Coords) : Thread nD τ := V d (cV L) (jV L)

abbrev mT : Memref sig .scVector .hbm S50000x128 .f32 := Memref.whole main_v1_1_scv
abbrev mI : Memref sig .scVector .hbm S1x1024 .i32 := Memref.whole main_v12_scv
abbrev mO : Memref sig .scVector .hbm S1024x128 .f32 := Memref.whole main_v13_scv
abbrev mX : Memref sig .scVector .vmem S2x1x128 .i32 := Memref.whole cc2_scoped0
abbrev mR : Memref sig .scVector .vmem S2x128x128 .f32 := Memref.whole cc2_scoped2

/-- The body, as the launch runs it. -/
abbrev tileProg (L : grid2.Coords) : Prog (TpuEff nD τ sig (Elt F) Λ₀ (.scVector (cV L) (jV L))) PUnit :=
  cc2__sc_kernel L mT (Memref.isWhole_whole _) mI (Memref.isWhole_whole _) mO (Memref.isWhole_whole _)
    mX (Memref.isWhole_whole _) cc2_scoped1 mR (Memref.isWhole_whole _) cc2_scoped3 cc2_scoped4 cc2_scoped5

theorem one_lt (L : grid2.Coords) (hw : (L 1).val < 8) :
    Scalar.select (Scalar.cmpi CmpIPredicate.slt (BitVec.ofNat 32 (L 1).val) 8#32) 1#32 0#32 = 1#32 := by
  revert hw; generalize L 1 = w; revert w; change ∀ w : Fin 16, _; decide

theorem g1 : Scalar.muli (1#32) (1#32) = 1#32 := by decide
theorem g2 : Scalar.cmpi CmpIPredicate.sgt (1#32) (0#32) = 1#1 := by decide
theorem g3 : Scalar.andi (1#1) (1#1) = 1#1 := by decide
theorem g4 : Scalar.addi (0#32) (1#32) = 1#32 := by decide
theorem g5 (x y : BitVec 32) : Scalar.select (1#1) x y = x := rfl
theorem g6 : Scalar.subi (1#32) (0#32) = 1#32 := by decide
theorem g7 : Scalar.divsi (1#32) (1#32) = 1#32 := by decide
theorem g8 : Scalar.subi (1#32) (1#32) = 0#32 := by decide
theorem g9 : Scalar.cmpi CmpIPredicate.eq (0#32) (0#32) = 1#1 := by decide

/-! ## The tile's block of the result -/

/-- The rows block `w` of the result holds. -/
def outSet (w : ℕ) : Finset S1024x128.Idx := Finset.univ.filter fun x => (x 0).val / 128 = w

/-- The block the tile writes, as it addresses it. -/
theorem set_out (L : grid2.Coords) (hw : (L 1).val < 8) (inb : ∀ a, k2_off13 L 0#32 a + S128x128.size a ≤ S1024x128.size a) :
    (mO.slice (Rect.unit (s := S1024x128) (k2_off13 L 0#32) S128x128.size inb) (fun _ => rfl)).view.set = outSet (L 1).val := by
  show ((View.whole main_v13_scv).slice _).set = _
  rw [View.set_slice_whole]
  ext x
  rw [Rect.mem_set_unit, outSet, Finset.mem_filter]
  simp only [off13_lt L hw, Finset.mem_univ, true_and]
  constructor
  · intro h
    have h0 := h 0
    simp at h0
    have : (S128x128.size 0) = 128 := rfl
    omega
  · intro h a
    have hx1 : (x 1).val < 128 := (x 1).isLt
    match a with
    | 0 => simp; have : (S128x128.size 0) = 128 := rfl; omega
    | 1 => simp; have : (S128x128.size 1) = 128 := rfl; omega

/-! ## A local copy in write mode -/

/-- A local copy whose destination is held in write mode: its flight delivers the destination marked and the source
    back. -/
theorem wp_dmaLocal_willBe {Λ : Labels} (defs : Defs nD τ sig (Elt F) Λ) (𝒱 : Variants) (c : Thread nD τ) (bd : Option 𝒱.V) {ιw : ℕ}
    {α : Type} {Q : α → sProp 𝕄} {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q qd : PosShare TreeShare} {fs : Buf (Elt F) (src.view.loc c)}
    {fd : Buf (Elt F) (dst.view.loc c)} {g : Tgt (Elt F) (dst.view.loc c)} {W : Finset (Idx (dst.view.loc c))}
    (N : ℕ) (hN : dst.view.amount sm = N) (hN0 : 0 < N)
    (hadm : dst.view.Admitted (Elt F) g (src.view.read (Elt F) fs) Finset.univ) :
    iprop(wmInv (Ix := HIx 1) (Name := ℕ) (Lvl := ℕ) (wmE (F := F)) ιw ∗ (src.view.loc c ↦[src.view.set]{q} fs)
        ∗ willBeTo (Ix := HIx 1) (Name := ℕ) (Lvl := ℕ) (wmE (F := F)) (dst.view.loc c) dst.view.set qd fd g W ∗ semVal (c, sm) 0)
      ⊢ iprop((Transfers.Flight countersEmb c sm (default : HIx 1) N iprop(
              willBeTo (Ix := HIx 1) (Name := ℕ) (Lvl := ℕ) (wmE (F := F)) (dst.view.loc c) dst.view.set qd fd g (W ∪ dst.view.set)
                ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q : sProp 𝕄) := by
  iintro ⟨#Hw, Hs, Hd, Hv⟩ Hk
  imod (Transfers.flight_alloc countersEmb hN0 iprop(
              willBeTo (Ix := HIx 1) (Name := ℕ) (Lvl := ℕ) (wmE (F := F)) (dst.view.loc c) dst.view.set qd fd g (W ∪ dst.view.set)
                ∗ (src.view.loc c ↦[src.view.set]{q} fs)) (g := (c, sm))) $$ Hv with ⟨%γ, %δ, %κ, #Hinv, Hγ, Hδ⟩
  iapply (wp_enqueueDma_willBeTo (emb := wmE (F := F)) (ιwm := ιw) 𝒱 c bd Set.univ (default : HIx 1) N hN hadm) $$ [Hs Hd] [Hγ]
  · isplitl [Hs]; · iexact Hs
    isplitr; · iexact Hw
    iexact Hd
  · iapply (Transfers.flight_creditUpdate countersEmb (δ := δ))
    isplitr; · iexact Hinv
    iexact Hγ
  iintro Hcred
  iapply Hk
  iapply (Transfers.flight_intro countersEmb c (κ := κ))
  isplitr; · iexact Hinv
  isplitl [Hδ] <;> iassumption

/-! ## The slots and the list, as the task addresses them -/

/-- The slot the indices land in. -/
abbrev mXs (h : ∀ a, (![0, 0, 0] : Fin 3 → ℕ) a + S1x1x128.size a ≤ S2x1x128.size a) : Memref sig .scVector .vmem S1x128 .i32 :=
  (mX.slice (Rect.unit (s := S2x1x128) ![0, 0, 0] S1x1x128.size h) (fun _ => rfl)).squeeze S1x128 squeezes_S1x1x128_S1x128
/-- The list the stream reads: the slot, as one line. -/
abbrev mList (h : ∀ a, (![0, 0, 0] : Fin 3 → ℕ) a + S1x1x128.size a ≤ S2x1x128.size a) : Memref sig .scVector .vmem S128 .i32 :=
  ((mXs h).slice (Rect.unit (s := S1x128) ![0, 0] S1x128.size inb_S1x128_S1x128_0_0) (fun _ => rfl)).squeeze S128 squeezes_S1x128_S128
/-- The slot the rows land in. -/
abbrev mRs (h : ∀ a, (![0, 0, 0] : Fin 3 → ℕ) a + S1x128x128.size a ≤ S2x128x128.size a) : Memref sig .scVector .vmem S128x128 .f32 :=
  (mR.slice (Rect.unit (s := S2x128x128) ![0, 0, 0] S1x128x128.size h) (fun _ => rfl)).squeeze S128x128 squeezes_S1x128x128_S128x128
/-- The whole table, as the stream addresses it. -/
abbrev mTa : Memref sig .scVector .hbm S50000x128 .f32 :=
  mT.slice (Rect.unit (s := S50000x128) ![0, 0] S50000x128.size inb_S50000x128_S50000x128_0_0) (fun _ => rfl)

/-- Word `x` of the list is the slot's word at lane `x`. -/
abbrev laneOf (x : S128.Idx) : S1x128.Idx :=
  fun | 0 => (0 : Fin 1) | 1 => x 0 | ⟨_ + 2, h⟩ => absurd h (Nat.not_lt.2 (Nat.le_add_left _ _))

/-- The place of word `k` in the list. -/
abbrev atLane (k : Fin 128) : S128.Idx := fun | 0 => k | ⟨_ + 1, h⟩ => absurd h (Nat.not_lt.2 (Nat.le_add_left _ _))

theorem inbX : ∀ a, (![0, 0, 0] : Fin 3 → ℕ) a + S1x1x128.size a ≤ S2x1x128.size a := by decide
theorem inbR : ∀ a, (![0, 0, 0] : Fin 3 → ℕ) a + S1x128x128.size a ≤ S2x128x128.size a := by decide

theorem list_idx (x : S128.Idx) :
    (Rect.unit (s := S1x128) ![0, 0] S1x128.size inb_S1x128_S1x128_0_0).emb (Shape.reshapeEquiv squeezes_S1x128_S128.numel_eq x) = laneOf x := by
  rw [Shape.reshapeEquiv_eq_of_rowMajor (y := laneOf x) squeezes_S1x128_S128.numel_eq
    (by rw [show (S1x128.rowMajor (laneOf x)).val = _ from Shape.rowMajor_val_two (laneOf x), Shape.rowMajor_val_one]; simp [laneOf])]
  funext a
  apply Fin.ext
  match a with
  | 0 => rfl
  | 1 => change 0 + 1 * (x 0).val = (x 0).val; omega

theorem list_read (h : ∀ a, (![0, 0, 0] : Fin 3 → ℕ) a + S1x1x128.size a ≤ S2x1x128.size a)
    (f : (mXs h).view.ty.Contents (Elt F)) (pay : S1x128.Idx → Elt F .i32) (x : S128.Idx) :
    (mList h).view.read (Elt F) ((mXs h).view.write (Elt F) f pay Finset.univ) x = pay (laneOf x) := by
  have e := congrFun (View.read_write_univ (v := (mXs h).view) (Val := Elt F) f pay) (laneOf x)
  rw [← list_idx x] at e ⊢
  exact e

/-- The index row's words, as the tile's slice of it reads them. -/
theorem idx_read (L : grid2.Coords) (hw : (L 1).val < 8) (inb : ∀ a, k2_off2 L a + S1x128.size a ≤ S1x1024.size a)
    (fi : Vec F S1x1024 .i32) (y : S1x128.Idx) :
    (mI.slice (Rect.unit (s := S1x1024) (k2_off2 L) S1x128.size inb) (fun _ => rfl)).view.read (Elt F) fi y
      = fi (ixAt ⟨128 * (L 1).val + (y 1).val, by have : (y 1).val < 128 := (y 1).isLt; omega⟩) := by
  rw [View.read_apply]
  refine (cast_eq _ _).trans (congrArg fi ?_)
  funext a
  apply Fin.ext
  match a with
  | 0 =>
    have : (y 0).val < 1 := (y 0).isLt
    change k2_off2 L 0 + 1 * (y 0).val = 0
    rw [off2_lt L hw]; simp; omega
  | 1 =>
    change k2_off2 L 1 + 1 * (y 1).val = 128 * (L 1).val + (y 1).val
    rw [off2_lt L hw]; simp

section Landed

variable (L : grid2.Coords) (hw : (L 1).val < 8) (inb : ∀ a, k2_off2 L a + S1x128.size a ≤ S1x1024.size a)
  (h : ∀ a, (![0, 0, 0] : Fin 3 → ℕ) a + S1x1x128.size a ≤ S2x1x128.size a)
  (f : (mXs h).view.ty.Contents (Elt F)) (fi : Vec F S1x1024 .i32) (pay : S1x128.Idx → Elt F .i32)
  (hpay : pay = (mI.slice (Rect.unit (s := S1x1024) (k2_off2 L) S1x128.size inb) (fun _ => rfl)).view.read (Elt F) fi)
include hw hpay

theorem list_val (x : S128.Idx) :
    (mList h).view.read (Elt F) ((mXs h).view.write (Elt F) f pay Finset.univ) x
      = fi (ixAt ⟨128 * (L 1).val + (x 0).val, by have : (x 0).val < 128 := (x 0).isLt; omega⟩) := by
  rw [list_read, hpay, idx_read L hw]

theorem list_in (hin : ∀ r, (fi (ixAt r)).toNat < 50000) (x : S128.Idx) :
    ((mList h).view.read (Elt F) ((mXs h).view.write (Elt F) f pay Finset.univ) x).toNat
      < S50000x128.size gathers_S50000x128_S128x128.axis := by
  rw [list_val L hw inb h f fi pay hpay]; exact hin _

/-- What the stream lands is the tile's block of the gathered rows. -/
theorem payload_eq (inb13 : ∀ a, k2_off13 L 0#32 a + S128x128.size a ≤ S1024x128.size a)
    (hin : ∀ r, (fi (ixAt r)).toNat < 50000) (ft : Vec F S50000x128 .f32) (hn : S128.numel = S128x128.size gathers_S50000x128_S128x128.axis')
    (hin' : ∀ x, ((mList h).view.read (Elt F) ((mXs h).view.write (Elt F) f pay Finset.univ) x).toNat
      < S50000x128.size gathers_S50000x128_S128x128.axis) (x : S128x128.Idx) :
    SparseCore.gatherPayload gathers_S50000x128_S128x128 (mTa.view.read (Elt F) ft)
        (SparseCore.rows ((mList h).view.read (Elt F) ((mXs h).view.write (Elt F) f pay Finset.univ)) hn hin') x
      = (mO.slice (Rect.unit (s := S1024x128) (k2_off13 L 0#32) S128x128.size inb13) (fun _ => rfl)).view.read (Elt F) (gathered ft fi) x := by
  have hx0 : (x 0).val < 128 := (x 0).isLt
  have hx1 : (x 1).val < 128 := (x 1).isLt
  have er : (mO.slice (Rect.unit (s := S1024x128) (k2_off13 L 0#32) S128x128.size inb13) (fun _ => rfl)).view.read (Elt F) (gathered ft fi) x
      = gathered ft fi (fun | 0 => (⟨128 * (L 1).val + (x 0).val, by omega⟩ : Fin 1024) | 1 => x 1 | ⟨_ + 2, h⟩ => absurd h (Nat.not_lt.2 (Nat.le_add_left _ _))) := by
    rw [View.read_apply]
    refine (cast_eq _ _).trans (congrArg (gathered ft fi) ?_)
    funext a
    apply Fin.ext
    match a with
    | 0 =>
      change k2_off13 L 0#32 0 + 1 * (x 0).val = 128 * (L 1).val + (x 0).val
      rw [off13_lt L hw]; simp
    | 1 =>
      change k2_off13 L 0#32 1 + 1 * (x 1).val = (x 1).val
      rw [off13_lt L hw]; simp
  rw [er]
  unfold SparseCore.gatherPayload
  rw [View.read_apply]
  refine (cast_eq _ _).trans ?_
  unfold gathered
  refine congrArg ft ?_
  funext a
  apply Fin.ext
  have hr : ∀ k, (SparseCore.rows ((mList h).view.read (Elt F) ((mXs h).view.write (Elt F) f pay Finset.univ)) hn hin' k).val
      = (fi (ixAt ⟨128 * (L 1).val + k.val, by have : k.val < 128 := k.isLt; omega⟩)).toNat := by
    intro k
    have hk : S128.rowMajor.symm (k.cast hn.symm) = atLane ⟨k.val, k.isLt⟩ := by
      rw [Equiv.symm_apply_eq]; apply Fin.ext; rw [Shape.rowMajor_val_one]; rfl
    unfold SparseCore.rows
    simp only [hk, list_val L hw inb h f fi pay hpay]
  match a with
  | 0 =>
    change 0 + 1 * (gathers_S50000x128_S128x128.idx _ x 0).val = _
    rw [show (gathers_S50000x128_S128x128.idx (SparseCore.rows ((mList h).view.read (Elt F) ((mXs h).view.write (Elt F) f pay Finset.univ)) hn hin') x 0)
      = _ from Shape.Gathers.idx_axis gathers_S50000x128_S128x128 _ x]
    rw [hr]
    have := hin ⟨128 * (L 1).val + (x 0).val, by omega⟩
    simp only [rowAt, this, if_pos]; exact Nat.zero_add _ |>.trans (Nat.one_mul _)
  | 1 =>
    change 0 + 1 * (gathers_S50000x128_S128x128.idx _ x 1).val = _
    rw [Shape.Gathers.idx_of_ne gathers_S50000x128_S128x128 _ x 1 (by decide)]
    simp [rowAt]
    rfl

end Landed

theorem rows_credit : ∑ j, ((mRs inbR).slice (S128x128.rowRect gathers_S50000x128_S128x128.axis' j) (S128x128.stride_rowRect gathers_S50000x128_S128x128.axis' j)).view.dmaCredit
    = (mRs inbR).view.dmaCredit := by decide

theorem inb13 (L : grid2.Coords) (hw : (L 1).val < 8) : ∀ a, k2_off13 L 0#32 a + S128x128.size a ≤ S1024x128.size a := by
  intro a
  rw [off13_lt L hw]
  match a with
  | 0 => change 128 * (L 1).val + 128 ≤ 1024; omega
  | 1 => change 0 + 128 ≤ 128; omega

/-- Off a memref's elements a write through it changes nothing. -/
theorem rest_write (c : Thread nD τ) {sp : Space} {s : Shape} {e : EltTy} (m : Memref sig c.2.kind sp s e) (f : Buf (Elt F) (m.view.loc c))
    (w : s.Idx → Elt F e) (q : PosShare TreeShare) :
    (m.view.loc c ↦[Finset.univ \ m.view.set]{q} f : sProp 𝕄) = m.view.loc c ↦[Finset.univ \ m.view.set]{q} m.view.write (Elt F) f w Finset.univ :=
  pointsTo_congr fun _ hi => (View.write_of_not_mem _ _ _ (by rw [View.setOn_univ]; exact (Finset.mem_sdiff.mp hi).2)).symm

/-! ## The task's run -/

abbrev semN (n : ℕ) (h : n < 19) (d : Dev nD) (L : grid2.Coords) : GSem nD τ sig := (thrV d L, SemLoc.dma ⟨n, h⟩)

set_option maxHeartbeats 4000000 in
theorem tile_lt (d : Dev nD) (L : grid2.Coords) (hw : (L 1).val < 8)
   (O : CellTallies nD τ sig (HIx 1)) (W : Waits sig (HIx 1)) (hO : ∀ g, O g none = 0)
   (fs : Buf (Elt F) ((thrV d L).loc cc2_scoped0)) (fr : Buf (Elt F) ((thrV d L).loc cc2_scoped2))
   (ft : Buf (Elt F) (mT.view.loc (thrV d L))) (fi : Buf (Elt F) (mI.view.loc (thrV d L))) (fo : Buf (Elt F) (mO.view.loc (thrV d L)))
   (hin : ∀ r, (fi (ixAt r)).toNat < 50000) (qt qi qo : PosShare TreeShare) {ιw : ℕ} :
   iprop(levAts (K (F := F)).L (K (F := F)).lev ∗ wmInv (Ix := HIx 1) (Name := ℕ) (Lvl := ℕ) (wmE (F := F)) ιw
     ∗ (mT.view.loc (thrV d L) ↦{qt} ft) ∗ (mI.view.loc (thrV d L) ↦{qi} fi)
     ∗ willBeTo (Ix := HIx 1) (Name := ℕ) (Lvl := ℕ) (wmE (F := F)) (mO.view.loc (thrV d L)) (outSet (L 1).val) qo fo (fun x => some (gathered ft fi x)) ∅
     ∗ (mX.view.loc (thrV d L) ↦{fullShare} fs) ∗ (mR.view.loc (thrV d L) ↦{fullShare} fr)
     ∗ semVal (semN 8 (by decide) d L) 0 ∗ semVal (semN 10 (by decide) d L) 0 ∗ semVal (semN 12 (by decide) d L) 0
     ∗ owes (thrV d L) O W) ⊢ wp frame (wpE (defs₀ (F := F)) 𝒱₀ (thrV d L) none) Set.univ (tileProg L) fun _ =>
       iprop((mT.view.loc (thrV d L) ↦{qt} ft) ∗ (mI.view.loc (thrV d L) ↦{qi} fi)
     ∗ willBeTo (Ix := HIx 1) (Name := ℕ) (Lvl := ℕ) (wmE (F := F)) (mO.view.loc (thrV d L)) (outSet (L 1).val) qo fo (fun x => some (gathered ft fi x)) (outSet (L 1).val)
     ∗ (∃ f, mX.view.loc (thrV d L) ↦{fullShare} f) ∗ (∃ f, mR.view.loc (thrV d L) ↦{fullShare} f)
     ∗ semVal (semN 8 (by decide) d L) 0 ∗ semVal (semN 10 (by decide) d L) 0 ∗ semVal (semN 12 (by decide) d L) 0
     ∗ ∃ W', ⌜∀ p ∈ W', p ∈ W ∨ p.2 = none⌝ ∗ owes (thrV d L) O W') := by
  have h1 := cond1_lt L hw
  have h2 := cond2_lt L hw
  have htr := trips1_lt L hw
  have htr2 := trips2_lt L hw
  have h0 : 0 < (k2_t1_loop L).trips := by omega
  have h18 := cond18_lt L hw
  have h3 := cond3_lt L hw h0
  have h4 := cond4_lt L hw h0
  have h7 := cond7_lt L hw h0
  have h9 := cond9_lt L hw h0
  have c1 := chk1_lt L hw h0
  have c2 := chk2_lt L
  have c3 := chk3_lt L
  have c8 := chk8_lt L hw
  have c7 := chk7_lt L
  generalize hP : (iprop(levAts (K (F := F)).L (K (F := F)).lev ∗ _) : sProp 𝕄) = P
  unfold tileProg
  simp only [cc2__sc_kernel_eq_skeleton]; unfold cc2__sc_kernel_skel
  simp (config := { iota := false, proj := false, eta := false }) only [dif_pos h1, k2_part5_eq_skeleton, k2_part6_eq_skeleton]
  unfold k2_part5_skel k2_part6_skel
  simp (config := { iota := false, proj := false, eta := false }) only [dif_pos h2, dif_pos h18, Prog.bind_assoc, Prog.pure_eq_ret, Scf.for_trips1_bind _ _ htr, Scf.for_trips0_bind _ _ htr2]
  simp only [Prog.bind_ret, one_lt L hw, g1, g2, g3, g4, g5, g6, g7, g8]
  unfold k2_t1_body
  simp only [k2_part1_eq_skeleton, k2_part2_eq_skeleton]
  unfold k2_part1_skel k2_part2_skel
  subst hP
  iintro ⟨#Hlv, #Hwm, HT, HI, HO, HX, HR, Hs8, Hs10, Hs12, Ho⟩
  ihave Hmw := (show levAts (K (F := F)).L (K (F := F)).lev ⊢ Transfers.MayWaits (thrV d L) (default : HIx 1) O from
    (K (F := F)).mayWaits_none (thr := thrV d L) hO) $$ Hlv
  sl_exec
  ihave HTs := (pointsTo_split_subset (q := qt) (f := ft) (S := Finset.univ) (Finset.subset_univ mTa.view.set)).1 $$ HT
  icases HTs with ⟨HTs, HTr⟩
  ihave HRs := (pointsTo_split_subset (q := fullShare) (f := fr) (S := Finset.univ) (Finset.subset_univ (mRs inbR).view.set)).1 $$ HR
  icases HRs with ⟨HRs, HRr⟩
  ihave HXs := (pointsTo_split_subset (q := fullShare) (S := Finset.univ) (Finset.subset_univ (mList inbX).view.set)).1 $$ HX
  icases HXs with ⟨HXs, HXr⟩
  iapply (SparseCore.wp_indirectGatherLocal countersEmb 𝒱₀ (thrV d L) none (hg := gathers_S50000x128_S128x128) (default : HIx 1)
      (mRs inbR).view.dmaCredit rows_credit (by decide) (list_in L hw (k2_off2_inb L h1 h2) inbX fs fi _ rfl hin)) $$ [HTs HRs HXs Hs12]
  · isplitl [HTs]; · iexact HTs
    isplitl [HRs]; · iexact HRs
    isplitl [HXs]; · iexact HXs
    iexact Hs12
  iintro Hfl
  sl_exec
  iapply (Transfers.wp_waitLocalO countersEmb 𝒱₀ (thrV d L) none (srcw := mTa) (dstw := mRs inbR) (hsrc := View.wordExact_bits rfl)
      (hdst := (View.wordExact_bits rfl).reshape _ _) (default : HIx 1) (rfl : (mRs inbR).view.dmaCredit = _)) $$ [Hfl Ho]
  · isplitl [Hfl]; · iexact Hfl
    isplitl [Ho]; · iexact Ho
    iapply (Transfers.MayWaits.elim (SemLoc.dma (SemArray.sem cc2_scoped4))) $$ Hmw
  iintro ⟨⟨HRs, HTs, HXs⟩, Hs12, Ho⟩
  ihave HT := (pointsTo_split_subset (q := qt) (f := ft) (S := Finset.univ) (Finset.subset_univ mTa.view.set)).2 $$ [HTs HTr]; · isplitl [HTs] <;> iassumption
  ihave HX := (pointsTo_split_subset (ℓ := mX.view.loc (thrV d L)) (q := fullShare) (f := (mXs inbX).view.write (Elt F) fs
    ((mI.slice (Rect.unit (s := S1x1024) (k2_off2 L) S1x128.size (k2_off2_inb L h1 h2)) (fun _ => rfl)).view.read (Elt F) fi) Finset.univ)
    (S := Finset.univ) (Finset.subset_univ (mList inbX).view.set)).2 $$ [HXs HXr]
  · isplitl [HXs]
    · iexact HXs
    · iexact HXr
  sl_exec
  ihave HO' := (Entails.of_eq (show (willBeTo (Ix := HIx 1) (Name := ℕ) (Lvl := ℕ) (wmE (F := F)) (mO.view.loc (thrV d L)) (outSet (L 1).val) qo fo (fun x => some (gathered ft fi x)) ∅ : sProp 𝕄)
      = willBeTo (Ix := HIx 1) (Name := ℕ) (Lvl := ℕ) (wmE (F := F)) ((mO.slice (Rect.unit (s := S1024x128) (k2_off13 L 0#32) S128x128.size (inb13 L hw)) (fun _ => rfl)).view.loc (thrV d L))
        (mO.slice (Rect.unit (s := S1024x128) (k2_off13 L 0#32) S128x128.size (inb13 L hw)) (fun _ => rfl)).view.set qo fo (fun x => some (gathered ft fi x)) ∅ by rw [set_out L hw])) $$ HO
  have hadm : (mO.slice (Rect.unit (s := S1024x128) (k2_off13 L 0#32) S128x128.size (inb13 L hw)) (fun _ => rfl)).view.Admitted (Elt F)
      (fun x => some (gathered ft fi x)) ((mRs inbR).view.read (Elt F) ((mRs inbR).view.write (Elt F) fr
        (SparseCore.gatherPayload gathers_S50000x128_S128x128 (mTa.view.read (Elt F) ft)
          (SparseCore.rows ((mList inbX).view.read (Elt F) ((mXs inbX).view.write (Elt F) fs ((mI.slice (Rect.unit (s := S1x1024) (k2_off2 L) S1x128.size (k2_off2_inb L h1 h2)) (fun _ => rfl)).view.read (Elt F) fi) Finset.univ)) rfl
            (list_in L hw (k2_off2_inb L h1 h2) inbX fs fi _ rfl hin))) Finset.univ)) Finset.univ := by
    rw [View.read_write_univ]
    exact View.admitted_some_iff.2 fun x _ => payload_eq L hw (k2_off2_inb L h1 h2) inbX fs fi _ rfl (inb13 L hw) hin ft _ _ x
  iapply (wp_dmaLocal_willBe (F := F) (defs₀ (F := F)) 𝒱₀ (thrV d L) none (dst := mO.slice (Rect.unit (s := S1024x128) (k2_off13 L 0#32) S128x128.size (inb13 L hw)) (fun _ => rfl))
     (src := mRs inbR) (hsrc := (View.wordExact_bits rfl).reshape _ _) (hdst := View.wordExact_bits rfl)
     _ rfl (View.dmaCredit_pos _ (by decide)) hadm) $$ [HRs HO' Hs10]
  · isplitr; · iexact Hwm
    isplitl [HRs]; · iexact HRs
    isplitl [HO']; · iexact HO'
    iexact Hs10
  iintro Hfl
  sl_exec
  have hr2 : tile_lt.sl.r_2 L = 0#32 := by
    unfold tile_lt.sl.r_2
    generalize Scalar.cmpi CmpIPredicate.ne (tile_lt.sl.v80_r0 L) (tile_lt.sl.v80_r0 L) = b
    revert b; decide
  rw [hr2]
  sl_exec
  ihave HRr := (Entails.of_eq (rest_write (thrV d L) (mRs inbR) fr _ fullShare)) $$ HRr
  ihave HR := (pointsTo_split_subset (ℓ := mR.view.loc (thrV d L)) (q := fullShare)
    (S := Finset.univ) (Finset.subset_univ (mRs inbR).view.set)).2 $$ [Hfl_src HRr]
  · isplitl [Hfl_src]
    · iexact Hfl_src
    · iexact HRr
  sl_step
  isplitl [HT]; · iexact HT
  isplitl [HI]; · iexact HI
  isplitl [Hfl_dst]
  · iapply (Entails.of_eq (show (willBeTo (Ix := HIx 1) (Name := ℕ) (Lvl := ℕ) (wmE (F := F)) ((mO.slice (Rect.unit (s := S1024x128) (k2_off13 L 0#32) S128x128.size (inb13 L hw)) (fun _ => rfl)).view.loc (thrV d L))
        (mO.slice (Rect.unit (s := S1024x128) (k2_off13 L 0#32) S128x128.size (inb13 L hw)) (fun _ => rfl)).view.set qo fo (fun x => some (gathered ft fi x))
        (∅ ∪ (mO.slice (Rect.unit (s := S1024x128) (k2_off13 L 0#32) S128x128.size (inb13 L hw)) (fun _ => rfl)).view.set) : sProp 𝕄)
      = willBeTo (Ix := HIx 1) (Name := ℕ) (Lvl := ℕ) (wmE (F := F)) (mO.view.loc (thrV d L)) (outSet (L 1).val) qo fo (fun x => some (gathered ft fi x)) (outSet (L 1).val) by rw [set_out L hw, Finset.empty_union]))
    iexact Hfl_dst
  isplitl [HX]; · iexists _; iexact HX
  isplitl [HR]; · iexists _; iexact HR
  isplitl [Hs8]; · iexact Hs8
  isplitl [Hfl]; · iexact Hfl
  isplitl [Hs12]; · iexact Hs12
  iexists _; isplitr
  swap; · iexact Ho
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- A subcore past the eighth does nothing. -/
theorem tile_ge (d : Dev nD) (L : grid2.Coords) (hw : ¬(L 1).val < 8) (Q : PUnit → sProp 𝕄) :
    Q ⟨⟩ ⊢ wp frame (wpE (defs₀ (F := F)) 𝒱₀ (thrV d L) none) Set.univ (tileProg L) Q := by
  unfold tileProg
  simp only [cc2__sc_kernel_eq_skeleton]; unfold cc2__sc_kernel_skel
  simp (config := { iota := false, proj := false, eta := false }) only [dif_neg (cond1_ge L hw)]
  iintro H
  sl_step
  iexact H

end Cert.ScLoss

end
-- ==== Proof.Launch.lean ====
/-
  The SparseCore call as the launch sees it: what each task is handed and gives back (a share of the
  table, a share of the row of indices, and its block of the result in the write mode, both
  SparseCores writing the same rows), the task's obligation, and how the TensorCore splits what it
  holds into the tasks' parts and joins them again.
-/
module

public import proofs.«01_k».proof.Proof.Tile

@[expose] public section

noncomputable section

namespace Cert.ScLoss

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

/-! ## The payloads -/

/-- The half of a whole share that SparseCore `c` has. -/
def hs (c : Fin 2) : PosShare TreeShare := if c = 0 then fullShare.left else fullShare.right
/-- Task `i`'s part of it. -/
def ts (c : Fin 2) (i : Fin 16) : PosShare TreeShare := pieceOf (hs c) 16 (by decide) i

/-- The table, the row of indices, and the result's contents before the call. -/
structure Held (F : FTy → Type) where
  tv : (d : Dev nD) → Buf (Elt F) (tLoc d)
  iv : (d : Dev nD) → Buf (Elt F) (iLoc d)
  ov : (d : Dev nD) → Buf (Elt F) (oLoc d)

variable (H : Held F)

/-- What the call leaves in the result. -/
def gv (d : Dev nD) : Buf (Elt F) (oLoc d) := gathered (H.tv d) (H.iv d)

/-- A task's block of the result, marked on `W`. -/
abbrev blk (d : Dev nD) (q : PosShare TreeShare) (w : ℕ) (W : Finset S1024x128.Idx) : sProp 𝕄 :=
  willBeTo (Ix := HIx 1) (Name := ℕ) (Lvl := ℕ) (wmE (F := F)) (oLoc d) (outSet w) q (H.ov d) (fun x => some (gv H d x)) W

def goP (d : Dev nD) (c : Fin 2) (i : Fin 16) : sProp 𝕄 :=
  iprop((tLoc d ↦{ts c i} H.tv d) ∗ (iLoc d ↦{ts c i} H.iv d) ∗ blk H d (hs c) i.val ∅)
def tdP (d : Dev nD) (c : Fin 2) (i : Fin 16) : sProp 𝕄 :=
  iprop((tLoc d ↦{ts c i} H.tv d) ∗ (iLoc d ↦{ts c i} H.iv d) ∗ blk H d (hs c) i.val (outSet i.val))

instance goP_storable (d : Dev nD) (c : Fin 2) (i : Fin 16) : BI.Storable (upEmb : UEmb _ 𝕄) (goP H d c i) := by unfold goP; infer_instance
instance tdP_storable (d : Dev nD) (c : Fin 2) (i : Fin 16) : BI.Storable (upEmb : UEmb _ 𝕄) (tdP H d c i) := by unfold tdP; infer_instance

def P : (K (F := F)).Pay (nD := nD) (Val := Elt F) (Name := ℕ) (U := UU F) where
  st := fun q d c => match q with | 0 => bigSep Finset.univ fun i : Fin 16 => goP H d (Fin.cast nCore_zero c) i
  dn := fun q d c => match q with | 0 => bigSep Finset.univ fun i : Fin 16 => tdP H d (Fin.cast nCore_zero c) i
  go := fun q d c i => match q with | 0 => goP H d (Fin.cast nCore_zero c) (Fin.cast nSub_zero i)
  td := fun q d c i => match q with | 0 => tdP H d (Fin.cast nCore_zero c) (Fin.cast nSub_zero i)
  x := fun _ _ => wmOn

instance P_storable : (P (F := F) H).IsStorable where
  st q d c := match q with
    | 0 => (inferInstance : BI.Storable (upEmb : UEmb _ 𝕄) (bigSep Finset.univ fun i : Fin 16 => goP H d (Fin.cast nCore_zero c) i))
  dn q d c := match q with
    | 0 => (inferInstance : BI.Storable (upEmb : UEmb _ 𝕄) (bigSep Finset.univ fun i : Fin 16 => tdP H d (Fin.cast nCore_zero c) i))
  go q d c i := match q with
    | 0 => (inferInstance : BI.Storable (upEmb : UEmb _ 𝕄) (goP H d (Fin.cast nCore_zero c) (Fin.cast nSub_zero i)))
  td q d c i := match q with
    | 0 => (inferInstance : BI.Storable (upEmb : UEmb _ 𝕄) (tdP H d (Fin.cast nCore_zero c) (Fin.cast nSub_zero i)))

theorem vecSplit : (K (F := F)).VecSplit' (P H) 0 := by
  intro d c
  show iprop(bigSep Finset.univ fun i : Fin 16 => goP H d (Fin.cast nCore_zero c) i) ⊢ |={Set.univ}=> iprop(
      (bigSep Finset.univ fun i : Fin ((K (F := F)).nSub 0) => goP H d (Fin.cast nCore_zero c) (Fin.cast nSub_zero i))
      ∗ ((bigSep Finset.univ fun i : Fin ((K (F := F)).nSub 0) => tdP H d (Fin.cast nCore_zero c) (Fin.cast nSub_zero i))
          -∗ bigSep Finset.univ fun i : Fin 16 => tdP H d (Fin.cast nCore_zero c) i))
  have e (Φ : Fin 16 → sProp 𝕄) : (bigSep Finset.univ fun i : Fin ((K (F := F)).nSub 0) => Φ (Fin.cast nSub_zero i)) = bigSep Finset.univ Φ :=
    bigSep_congr fun _ _ => congrArg Φ (Fin.ext rfl)
  rw [e (goP H d (Fin.cast nCore_zero c)), e (tdP H d (Fin.cast nCore_zero c))]
  iintro Hg; imodintro
  isplitl [Hg]; · iexact Hg
  iintro Ht; iexact Ht

/-! ## A task -/

section Task
variable (d : Dev nD) (L : grid2.Coords)

theorem ownSems_open :
    (ownSems0 (thrV d L) : sProp 𝕄)
      = iprop(semVal (semN 8 (by decide) d L) 0 ∗ semVal (semN 10 (by decide) d L) 0 ∗ semVal (semN 12 (by decide) d L) 0
          ∗ bigSep ((((ownCells (thrV d L)).erase (semN 8 (by decide) d L)).erase (semN 10 (by decide) d L)).erase (semN 12 (by decide) d L)) fun g => semVal g 0) := by
  have sc (n : ℕ) (h : n < 19) (hs : (SemLoc.dma ⟨n, h⟩ : SemLoc sig).isScoped .scVector = true) : semN n h d L ∈ ownCells (thrV d L) :=
    mem_ownCells.mpr ⟨rfl, hs⟩
  have ne (n n' : ℕ) (h : n < 19) (h' : n' < 19) (e : n ≠ n') : semN n h d L ≠ semN n' h' d L := fun q => by
    simp only [Prod.mk.injEq, true_and, SemLoc.dma.injEq, Fin.mk.injEq] at q; exact e q
  unfold SparseCore.Cfg.ownSems0
  rw [SparseCore.bigSep_erase' (sc 8 (by decide) (by decide)),
    SparseCore.bigSep_erase' (Finset.mem_erase.mpr ⟨ne 10 8 (by decide) (by decide) (by decide), sc 10 (by decide) (by decide)⟩),
    SparseCore.bigSep_erase' (Finset.mem_erase.mpr ⟨ne 12 10 (by decide) (by decide) (by decide),
      Finset.mem_erase.mpr ⟨ne 12 8 (by decide) (by decide) (by decide), sc 12 (by decide) (by decide)⟩⟩)]

theorem ownBufs_open :
    (ownBufs (thrV d L) : sProp 𝕄)
      = iprop((∃ f, (thrV d L).loc cc2_scoped0 ↦{fullShare} f) ∗ (∃ f, (thrV d L).loc cc2_scoped2 ↦{fullShare} f)
          ∗ bigSep (((ownRefs (τ := τ) (.scVector (cV L) (jV L))).erase ((Proc.scVector (cV L) (jV L)).devRef cc2_scoped0)).erase
              ((Proc.scVector (cV L) (jV L)).devRef cc2_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scoped0) rfl)).trans ?_
  rw [SparseCore.bigSep_erase' (Finset.mem_erase.mpr ⟨fun e => absurd (Proc.devRef_injective _ e) (show (cc2_scoped2 : Ref sig .scVector) ≠ cc2_scoped0 by decide),
    SparseCore.Cfg.mem_ownRefs_of_owner (p := Proc.scVector (cV L) (jV L)) (b := (Proc.scVector (cV L) (jV L)).devRef cc2_scoped2) rfl⟩)]

/-- A task that writes nothing has an empty block, already marked. -/
theorem blk_idle {w : ℕ} (hw : ¬ w < 8) (q : PosShare TreeShare) : (blk H d q w ∅ : sProp 𝕄) = blk H d q w (outSet w) := by
  have hempty : outSet w = ∅ := by
    ext x; simp only [outSet, Finset.mem_filter, Finset.mem_univ, true_and, Finset.notMem_empty, iff_false]
    have : (x 0).val < 1024 := (x 0).isLt
    omega
  unfold blk; rw [hempty]

/-- The tasks read only rows of the table. -/
def RowsOK : Prop := ∀ (d : Dev nD) (r : Fin 1024), (H.iv d (ixAt r)).toNat < 50000

set_option maxHeartbeats 1000000 in
theorem task (hok : RowsOK H) (O : CellTallies nD τ sig (HIx 1)) (W : Waits sig (HIx 1)) (hO : ∀ g, O g none = 0) :
    iprop(levAts (K (F := F)).L (K (F := F)).lev ∗ wmOn
        ∗ goP H d (L 0) (L 1)
        ∗ scopedBufs (thrV d L) ∗ scopedSems0 (thrV d L) ∗ owes (thrV d L) O W)
      ⊢ wp frame (wpE (defs₀ (F := F)) 𝒱₀ (thrV d L) none) Set.univ (tileProg L)
          fun _ => iprop(tdP H d (L 0) (L 1)
            ∗ scopedBufs (thrV d L) ∗ scopedSems0 (thrV d L)
            ∗ ∃ W', ⌜∀ p ∈ W', p ∈ W ∨ p.2 = none⌝ ∗ owes (thrV d L) O W') := by
  by_cases hw : (L 1).val < 8
  · rw [(K (F := F)).scopedBufs_V scFacts d (cV L) (jV L), SparseCore.Cfg.scopedSems0_V (Val := Elt F) d (cV L) (jV L), ownSems_open, ownBufs_open]
    unfold goP tdP wmOn
    iintro ⟨#Hlv, ⟨%ιw, #Hwm⟩, ⟨Ht, Hi, Ho⟩, ⟨⟨%fs, Hs⟩, ⟨%fr, Hr⟩, Hbufs⟩, ⟨HsemA, HsemB, HsemC, Hsems⟩, HO⟩
    ihave Hrun := (tile_lt d L hw O W hO fs fr (H.tv d) (H.iv d) (H.ov d) (fun r => hok d r) (ts (L 0) (L 1)) (ts (L 0) (L 1)) (hs (L 0)) (ιw := ιw))
      $$ [Ht Hi Ho Hs Hr HsemA HsemB HsemC HO]
    · isplitr; · iexact Hlv
      isplitr; · iexact Hwm
      isplitl [Ht]; · iexact Ht
      isplitl [Hi]; · iexact Hi
      isplitl [Ho]; · iexact Ho
      isplitl [Hs]; · iexact Hs
      isplitl [Hr]; · iexact Hr
      isplitl [HsemA]; · iexact HsemA
      isplitl [HsemB]; · iexact HsemB
      isplitl [HsemC]; · iexact HsemC
      iexact HO
    iapply (wp_wand_r frame _ Set.univ)
    isplitl [Hrun]; · iexact Hrun
    iintro %_ ⟨Ht, Hi, Ho, ⟨%f1, Hs⟩, ⟨%f2, Hr⟩, HsemA, HsemB, HsemC, HO⟩
    isplitl [Ht Hi Ho]
    · isplitl [Ht]; · iexact Ht
      isplitl [Hi]; · iexact Hi
      iexact Ho
    isplitl [Hs Hr Hbufs]
    · isplitl [Hs]; · iexists f1; iexact Hs
      isplitl [Hr]; · iexists f2; iexact Hr
      iexact Hbufs
    isplitl [HsemA HsemB HsemC Hsems]
    · isplitl [HsemA]; · iexact HsemA
      isplitl [HsemB]; · iexact HsemB
      isplitl [HsemC]; · iexact HsemC
      iexact Hsems
    iexact HO
  · rw [show (tdP H d (L 0) (L 1) : sProp 𝕄) = goP H d (L 0) (L 1) by unfold goP tdP; rw [blk_idle H d hw]]
    iintro ⟨-, -, Hg, Hb, Hs, HO⟩
    iapply (tile_ge d L hw)
    isplitl [Hg]; · iexact Hg
    isplitl [Hb]; · iexact Hb
    isplitl [Hs]; · iexact Hs
    iexists W; isplitr
    · ipureintro; exact fun p hp => .inl hp
    iexact HO

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => tileProg (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Task

set_option maxRecDepth 16384 in
set_option maxHeartbeats 4000000 in
theorem tileObl (hok : RowsOK H) : (K (F := F)).TileObl (D (F := F)) 𝒱 (P H) v₀ 0 := by
  intro d c i O W hO _ _
  simp only [show (P H).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task H d (coordsV ⟨_, hci.1⟩ ⟨_, hci.2⟩) hok O W hO).trans (wp_mono frame _ _ fun _ => obl_post)

/-! ## Splitting what the TensorCore holds, and joining it -/

theorem outSet_disjoint : ∀ i ∈ (Finset.univ : Finset (Fin 16)), ∀ j ∈ (Finset.univ : Finset (Fin 16)), i ≠ j → Disjoint (outSet i.val) (outSet j.val) :=
  fun i _ j _ h => Finset.disjoint_left.mpr fun x hi hj => by
    simp only [outSet, Finset.mem_filter, Finset.mem_univ, true_and] at hi hj
    exact h (Fin.ext (hi.symm.trans hj))

theorem outSet_cover : (Finset.univ : Finset (Fin 16)).biUnion (fun i => outSet i.val) = Finset.univ := by
  ext x
  simp only [outSet, Finset.mem_biUnion, Finset.mem_filter, Finset.mem_univ, true_and, iff_true]
  have : (x 0).val < 1024 := (x 0).isLt
  exact ⟨⟨(x 0).val / 128, by omega⟩, rfl⟩

theorem out_blocks (d : Dev nD) (f : Buf (Elt F) (oLoc d)) :
    (oLoc d ↦{fullShare} f : sProp 𝕄) = bigSep Finset.univ fun i : Fin 16 => oLoc d ↦[outSet i.val]{fullShare} f := by
  rw [← pointsTo_biUnion Finset.univ (ℓ := oLoc d) (fun i : Fin 16 => outSet i.val) outSet_disjoint, outSet_cover]; try rfl

theorem two_cores (Φ : Fin 2 → sProp 𝕄) : (bigSep Finset.univ fun c : Fin ((K (F := F)).nCore 0) => Φ (Fin.cast nCore_zero c)) = iprop(Φ 0 ∗ Φ 1) := by
  rw [show (bigSep Finset.univ fun c : Fin ((K (F := F)).nCore 0) => Φ (Fin.cast nCore_zero c)) = bigSep Finset.univ Φ from
    bigSep_congr fun _ _ => congrArg Φ (Fin.ext rfl), show (Finset.univ : Finset (Fin 2)) = {0, 1} by decide,
    SparseCore.bigSep_insert' (by decide), bigSep_singleton]

/-- A whole buffer is the tasks' shares of it. -/
theorem share_tasks {ℓ : Loc nD τ sig} (f : Buf (Elt F) ℓ) :
    (ℓ ↦{fullShare} f : sProp 𝕄) = iprop((bigSep Finset.univ fun i : Fin 16 => ℓ ↦{ts 0 i} f) ∗ bigSep Finset.univ fun i : Fin 16 => ℓ ↦{ts 1 i} f) := by
  rw [BI.Entails.antisymm (pointsTo_share (PosShare.mem_left_op_right fullShare)).1 (pointsTo_share (PosShare.mem_left_op_right fullShare)).2,
    pointsTo_piecesOf Finset.univ f (o := 16) (by decide) fullShare.left, pointsTo_piecesOf Finset.univ f (o := 16) (by decide) fullShare.right]
  rfl

theorem blk_share (d : Dev nD) (w : ℕ) (W : Finset S1024x128.Idx) :
    (blk H d fullShare w W : sProp 𝕄) = iprop(blk H d (hs 0) w W ∗ blk H d (hs 1) w W) := by
  refine BI.Entails.antisymm ?_ ?_
  · show (blk H d fullShare w W : sProp 𝕄) ⊢ iprop(blk H d fullShare.left w W ∗ blk H d fullShare.right w W)
    iintro ⟨H1, H2⟩
    isplitl [H1] <;> iassumption
  · show iprop(blk H d fullShare.left w W ∗ blk H d fullShare.right w W) ⊢ (blk H d fullShare w W : sProp 𝕄)
    refine BIBase.Entails.trans ?_ (Entails.of_eq (show (blk H d fullShare w (W ∪ W) : sProp 𝕄) = blk H d fullShare w W by rw [Finset.union_self]))
    iintro ⟨H1, H2⟩
    icombine H1 H2 as H
    iexact H

theorem st_split (d : Dev nD) :
    iprop(wmOn ∗ (tLoc d ↦{fullShare} H.tv d) ∗ (iLoc d ↦{fullShare} H.iv d) ∗ oLoc d ↦{fullShare} H.ov d)
      ⊢ (iprop(|={Set.univ}=> bigSep Finset.univ fun c : Fin ((K (F := F)).nCore 0) => (P H).st 0 d c) : sProp 𝕄) := by
  show _ ⊢ (iprop(|={Set.univ}=> bigSep Finset.univ fun c : Fin ((K (F := F)).nCore 0) =>
    (fun c : Fin 2 => bigSep Finset.univ fun i : Fin 16 => goP H d c i) (Fin.cast nCore_zero c)) : sProp 𝕄)
  rw [two_cores (fun c : Fin 2 => bigSep Finset.univ fun i : Fin 16 => goP H d c i), share_tasks (H.tv d), share_tasks (H.iv d), out_blocks]
  have hin : iprop(wmOn ∗ bigSep Finset.univ fun i : Fin 16 => oLoc d ↦[outSet i.val]{fullShare} H.ov d)
      ⊢ (iprop(|={Set.univ}=> bigSep Finset.univ fun i : Fin 16 => blk H d fullShare i.val ∅) : sProp 𝕄) := by
    refine BIBase.Entails.trans ?_ (bigSep_fupd Finset.univ fun i : Fin 16 => (blk H d fullShare i.val ∅ : sProp 𝕄))
    refine BIBase.Entails.trans (show _ ⊢ bigSep Finset.univ fun i : Fin 16 => (iprop(wmOn ∗ oLoc d ↦[outSet i.val]{fullShare} H.ov d) : sProp 𝕄) from ?_) (bigSep_mono fun i _ => show iprop(wmOn ∗ oLoc d ↦[outSet i.val]{fullShare} H.ov d) ⊢ iprop(|={Set.univ}=> blk H d fullShare i.val ∅) from ?_)
    · rw [bigSep_sep']
      iintro ⟨#Hw, Ho⟩
      isplitr
      · iapply (BI.bigSep_of_persistent Finset.univ (wmOn (F := F))); iexact Hw
      · iexact Ho
    · unfold wmOn
      iintro ⟨⟨%ιw, #Hw⟩, Ho⟩
      iapply (pointsTo_castIn (fun x => some (gv H d x)))
      isplitr; · iexact Hw
      iexact Ho
  iintro ⟨#Hw, ⟨Ht0, Ht1⟩, ⟨Hi0, Hi1⟩, Ho⟩
  imod hin $$ [Ho] with Ho
  · isplitr; · iexact Hw
    iexact Ho
  imodintro
  simp only [blk_share, goP, bigSep_sep']
  icases Ho with ⟨Ho0, Ho1⟩
  isplitl [Ht0 Hi0 Ho0]
  · isplitl [Ht0]; · iexact Ht0
    isplitl [Hi0]; · iexact Hi0
    iexact Ho0
  · isplitl [Ht1]; · iexact Ht1
    isplitl [Hi1]; · iexact Hi1
    iexact Ho1

theorem dn_join (d : Dev nD) :
    iprop(wmOn ∗ bigSep Finset.univ fun c : Fin ((K (F := F)).nCore 0) => (P H).dn 0 d c)
      ⊢ (iprop(|={Set.univ}=> ((tLoc d ↦{fullShare} H.tv d) ∗ (iLoc d ↦{fullShare} H.iv d) ∗ oLoc d ↦{fullShare} gv H d)) : sProp 𝕄) := by
  show iprop(wmOn ∗ bigSep Finset.univ fun c : Fin ((K (F := F)).nCore 0) =>
    (fun c : Fin 2 => bigSep Finset.univ fun i : Fin 16 => tdP H d c i) (Fin.cast nCore_zero c)) ⊢ _
  rw [two_cores (fun c : Fin 2 => bigSep Finset.univ fun i : Fin 16 => tdP H d c i), share_tasks (H.tv d), share_tasks (H.iv d), out_blocks]
  have hout : iprop(wmOn ∗ bigSep Finset.univ fun i : Fin 16 => blk H d fullShare i.val (outSet i.val))
      ⊢ (iprop(|={Set.univ}=> bigSep Finset.univ fun i : Fin 16 => oLoc d ↦[outSet i.val]{fullShare} gv H d) : sProp 𝕄) := by
    refine BIBase.Entails.trans ?_ (bigSep_fupd Finset.univ fun i : Fin 16 => (oLoc d ↦[outSet i.val]{fullShare} gv H d : sProp 𝕄))
    refine BIBase.Entails.trans (show _ ⊢ bigSep Finset.univ fun i : Fin 16 => (iprop(wmOn ∗ blk H d fullShare i.val (outSet i.val)) : sProp 𝕄) from ?_) (bigSep_mono fun i _ => show iprop(wmOn ∗ blk H d fullShare i.val (outSet i.val)) ⊢ iprop(|={Set.univ}=> oLoc d ↦[outSet i.val]{fullShare} gv H d) from ?_)
    · rw [bigSep_sep']
      iintro ⟨#Hw, Ho⟩
      isplitr
      · iapply (BI.bigSep_of_persistent Finset.univ (wmOn (F := F))); iexact Hw
      · iexact Ho
    · unfold wmOn
      iintro ⟨⟨%ιw, #Hw⟩, Ho⟩
      rw [show (oLoc d ↦[outSet i.val]{fullShare} gv H d : sProp 𝕄) = oLoc d ↦[outSet i.val]{fullShare} (outSet i.val).piecewise (gv H d) (H.ov d) from
        pointsTo_congr fun x hx => (Finset.piecewise_eq_of_mem _ _ _ hx).symm]
      iapply (willBeTo_castOut_some (ιwm := ιw))
      isplitr; · iexact Hw
      iexact Ho
  simp only [tdP, bigSep_sep']
  iintro ⟨#Hw, ⟨Ht0, Hi0, Ho0⟩, ⟨Ht1, Hi1, Ho1⟩⟩
  imod hout $$ [Ho0 Ho1] with Ho
  · isplitr; · iexact Hw
    simp only [blk_share, bigSep_sep']
    isplitl [Ho0] <;> iassumption
  imodintro
  isplitl [Ht0 Ht1]
  · isplitl [Ht0] <;> iassumption
  isplitl [Hi0 Hi1]
  · isplitl [Hi0] <;> iassumption
  iexact Ho

end Cert.ScLoss

end
-- ==== Proof.Host.lean ====
/-
  @main's host operations between the calls as one line, and @main as its five stretches.
-/
module

public import proofs.«01_k».proof.Proof.Common

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open scoped Idealize.ShloMosaic.TcCoe

variable {F : FTy → Type} [FloatOps F] [Named F]

local notation "𝕄" => MT nD τ sig (HIx 1) (Elt F) ℕ (UU F) ℕ

/-- The host operations between the second region and the SparseCore call, in order: the packed rows' indices
    and the halves' mask, from the targets. -/
abbrev hostOps : List (HloOp τ sig (Elt F)) :=
  [ nullary main_c (constantI S_ 32 4000#32),
    TRef.unary (TRef.of (T := ⟨S_, .i32⟩) main_c) (TRef.of (T := ⟨S_, .i32⟩) main_call0_v0) id,
    TRef.unary (TRef.of (T := ⟨S_, .i32⟩) main_call0_v0) (TRef.of (T := ⟨S1024, .i32⟩) main_call0_v1) (broadcastInDim S1024 ![] bcast_S_S1024),
    TRef.binary (TRef.of (T := ⟨S1024, .i32⟩) main_arg1) (TRef.of (T := ⟨S1024, .i32⟩) main_call0_v1) (TRef.of (T := ⟨S1024, .i32⟩) main_call0_v2) Host.divsi,
    TRef.unary (TRef.of (T := ⟨S1024, .i32⟩) main_arg1) (TRef.of (T := ⟨S1024, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S1024, .i32⟩) main_call0_v5) (broadcastInDim S1024 ![] bcast_S_S1024),
    TRef.binary (TRef.of (T := ⟨S1024, .i32⟩) main_call0_v3) (TRef.of (T := ⟨S1024, .i32⟩) main_call0_v5) (TRef.of (T := ⟨S1024, .i1⟩) main_call0_v6) (cmpi .ne),
    TRef.unary (TRef.of (T := ⟨S_, .i32⟩) main_call0_v0) (TRef.of (T := ⟨S1024, .i32⟩) main_call0_v7) (broadcastInDim S1024 ![] bcast_S_S1024),
    TRef.binary (TRef.of (T := ⟨S1024, .i32⟩) main_arg1) (TRef.of (T := ⟨S1024, .i32⟩) main_call0_v7) (TRef.of (T := ⟨S1024, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S1024, .i32⟩) main_call0_v9) (broadcastInDim S1024 ![] bcast_S_S1024),
    TRef.binary (TRef.of (T := ⟨S1024, .i32⟩) main_call0_v8) (TRef.of (T := ⟨S1024, .i32⟩) main_call0_v9) (TRef.of (T := ⟨S1024, .i1⟩) main_call0_v10) (cmpi .ne),
    TRef.binary (TRef.of (T := ⟨S1024, .i1⟩) main_call0_v6) (TRef.of (T := ⟨S1024, .i1⟩) main_call0_v10) (TRef.of (T := ⟨S1024, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S1024, .i32⟩) main_call0_v12) (broadcastInDim S1024 ![] bcast_S_S1024),
    TRef.binary (TRef.of (T := ⟨S1024, .i32⟩) main_call0_v2) (TRef.of (T := ⟨S1024, .i32⟩) main_call0_v12) (TRef.of (T := ⟨S1024, .i32⟩) main_call0_v13) subi,
    TRef.ternary (TRef.of (T := ⟨S1024, .i1⟩) main_call0_v11) (TRef.of (T := ⟨S1024, .i32⟩) main_call0_v13) (TRef.of (T := ⟨S1024, .i32⟩) main_call0_v2) (TRef.of (T := ⟨S1024, .i32⟩) main_v2) select,
    nullary main_c_0 (constantI S_ 32 2000#32),
    unary main_c_0 main_v3 (broadcastInDim S1024 ![] bcast_S_S1024 : (⟨S_, .i32⟩ : BufTy).Contents (Elt F) → (⟨S1024, .i32⟩ : BufTy).Contents (Elt F)),
    binary main_v2 main_v3 main_v4 (muli : (⟨S1024, .i32⟩ : BufTy).Contents (Elt F) → (⟨S1024, .i32⟩ : BufTy).Contents (Elt F) → (⟨S1024, .i32⟩ : BufTy).Contents (Elt F)),
    nullary main_c_1 (constantI S_ 32 2000#32),
    TRef.unary (TRef.of (T := ⟨S_, .i32⟩) main_c_1) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S1024, .i32⟩) main_call1_v3) (broadcastInDim S1024 ![] bcast_S_S1024),
    TRef.binary (TRef.of (T := ⟨S1024, .i32⟩) main_arg1) (TRef.of (T := ⟨S1024, .i32⟩) main_call1_v3) (TRef.of (T := ⟨S1024, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S1024, .i32⟩) main_call1_v5) (broadcastInDim S1024 ![] bcast_S_S1024),
    TRef.binary (TRef.of (T := ⟨S1024, .i32⟩) main_call1_v4) (TRef.of (T := ⟨S1024, .i32⟩) main_call1_v5) (TRef.of (T := ⟨S1024, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S1024, .i32⟩) main_call1_v7) (broadcastInDim S1024 ![] bcast_S_S1024),
    TRef.binary (TRef.of (T := ⟨S1024, .i32⟩) main_call1_v4) (TRef.of (T := ⟨S1024, .i32⟩) main_call1_v7) (TRef.of (T := ⟨S1024, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S1024, .i1⟩) main_call1_v10) (broadcastInDim S1024 ![] bcast_S_S1024),
    TRef.binary (TRef.of (T := ⟨S1024, .i1⟩) main_call1_v8) (TRef.of (T := ⟨S1024, .i1⟩) main_call1_v10) (TRef.of (T := ⟨S1024, .i1⟩) main_call1_v11) (cmpi .ne),
    TRef.binary (TRef.of (T := ⟨S1024, .i1⟩) main_call1_v11) (TRef.of (T := ⟨S1024, .i1⟩) main_call1_v6) (TRef.of (T := ⟨S1024, .i1⟩) main_call1_v12) andi,
    TRef.unary (TRef.of (T := ⟨S_, .i32⟩) main_call1_v2) (TRef.of (T := ⟨S1024, .i32⟩) main_call1_v13) (broadcastInDim S1024 ![] bcast_S_S1024),
    TRef.binary (TRef.of (T := ⟨S1024, .i32⟩) main_call1_v4) (TRef.of (T := ⟨S1024, .i32⟩) main_call1_v13) (TRef.of (T := ⟨S1024, .i32⟩) main_call1_v14) addi,
    TRef.ternary (TRef.of (T := ⟨S1024, .i1⟩) main_call1_v12) (TRef.of (T := ⟨S1024, .i32⟩) main_call1_v14) (TRef.of (T := ⟨S1024, .i32⟩) main_call1_v4) (TRef.of (T := ⟨S1024, .i32⟩) main_v5) select,
    binary main_v4 main_v5 main_v6 (addi : (⟨S1024, .i32⟩ : BufTy).Contents (Elt F) → (⟨S1024, .i32⟩ : BufTy).Contents (Elt F) → (⟨S1024, .i32⟩ : BufTy).Contents (Elt F)),
    nullary main_c_2 (constantI S_ 32 4000#32),
    TRef.unary (TRef.of (T := ⟨S_, .i32⟩) main_c_2) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S1024, .i32⟩) main_call2_v3) (broadcastInDim S1024 ![] bcast_S_S1024),
    TRef.binary (TRef.of (T := ⟨S1024, .i32⟩) main_arg1) (TRef.of (T := ⟨S1024, .i32⟩) main_call2_v3) (TRef.of (T := ⟨S1024, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S1024, .i32⟩) main_call2_v5) (broadcastInDim S1024 ![] bcast_S_S1024),
    TRef.binary (TRef.of (T := ⟨S1024, .i32⟩) main_call2_v4) (TRef.of (T := ⟨S1024, .i32⟩) main_call2_v5) (TRef.of (T := ⟨S1024, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S1024, .i32⟩) main_call2_v7) (broadcastInDim S1024 ![] bcast_S_S1024),
    TRef.binary (TRef.of (T := ⟨S1024, .i32⟩) main_call2_v4) (TRef.of (T := ⟨S1024, .i32⟩) main_call2_v7) (TRef.of (T := ⟨S1024, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S1024, .i1⟩) main_call2_v10) (broadcastInDim S1024 ![] bcast_S_S1024),
    TRef.binary (TRef.of (T := ⟨S1024, .i1⟩) main_call2_v8) (TRef.of (T := ⟨S1024, .i1⟩) main_call2_v10) (TRef.of (T := ⟨S1024, .i1⟩) main_call2_v11) (cmpi .ne),
    TRef.binary (TRef.of (T := ⟨S1024, .i1⟩) main_call2_v11) (TRef.of (T := ⟨S1024, .i1⟩) main_call2_v6) (TRef.of (T := ⟨S1024, .i1⟩) main_call2_v12) andi,
    TRef.unary (TRef.of (T := ⟨S_, .i32⟩) main_call2_v2) (TRef.of (T := ⟨S1024, .i32⟩) main_call2_v13) (broadcastInDim S1024 ![] bcast_S_S1024),
    TRef.binary (TRef.of (T := ⟨S1024, .i32⟩) main_call2_v4) (TRef.of (T := ⟨S1024, .i32⟩) main_call2_v13) (TRef.of (T := ⟨S1024, .i32⟩) main_call2_v14) addi,
    TRef.ternary (TRef.of (T := ⟨S1024, .i1⟩) main_call2_v12) (TRef.of (T := ⟨S1024, .i32⟩) main_call2_v14) (TRef.of (T := ⟨S1024, .i32⟩) main_call2_v4) (TRef.of (T := ⟨S1024, .i32⟩) main_v7) select,
    nullary main_c_3 (constantI S_ 32 2000#32),
    unary main_c_3 main_v8 (broadcastInDim S1024 ![] bcast_S_S1024 : (⟨S_, .i32⟩ : BufTy).Contents (Elt F) → (⟨S1024, .i32⟩ : BufTy).Contents (Elt F)),
    binary main_v7 main_v8 main_v9 (cmpi .slt : (⟨S1024, .i32⟩ : BufTy).Contents (Elt F) → (⟨S1024, .i32⟩ : BufTy).Contents (Elt F) → (⟨S1024, .i1⟩ : BufTy).Contents (Elt F)),
    unary main_v9 main_v10 (uitofp .f32 : (⟨S1024, .i1⟩ : BufTy).Contents (Elt F) → (⟨S1024, .f32⟩ : BufTy).Contents (Elt F)),
    reshape main_v10 main_v11 (rfl : (.f32 : EltTy) = .f32) shapeCasts_S1024_S1024x1,
    reshape main_v6 main_v12 (rfl : (.i32 : EltTy) = .i32) shapeCasts_S1024_S1x1024 ]

theorem hostOps_sub : (hostOps (F := F)).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., reshape_bufs_sub .., reshape_bufs_sub ..⟩

theorem hostOps_fresh : (hostOps (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The last host operation. -/
abbrev endOps : List (HloOp τ sig (Elt F)) := [reshape main_v14 main_v15 (rfl : (.f32 : EltTy) = .f32) shapeCasts_S1x1_S_]

theorem endOps_sub : (endOps (F := F)).Forall fun op => op.bufs ⊆ tcRefs τ sig := by
  exact reshape_bufs_sub ..
theorem endOps_fresh : (endOps (F := F)).Forall fun op => op.fresh = ∅ := rfl

set_option maxHeartbeats 4000000 in
set_option maxRecDepth 16384 in
/-- @main in five stretches. -/
theorem main_eq (d : Dev nD) : main (F := F) d = (do
    Prog.lift (.customCall (SparseCore.inner (Pipeline.entry 0)) ())
    Prog.lift (.customCall (SparseCore.inner (Pipeline.entry 1)) ())
    seq hostOps
    sc.run d 0
    Prog.lift (.customCall (SparseCore.inner (Pipeline.entry 2)) ())
    seq endOps) := by rfl

end Cert.ScLoss

end
-- ==== Proof.Main.lean ====
/-
  The whole run: @main walks the buffers through one valuation after another, and the launch theorem makes of it
  what every weakly fair execution ends at.
-/
module

public import proofs.«01_k».proof.Proof.Regions
public import proofs.«01_k».proof.Proof.Launch
public import proofs.«01_k».proof.Proof.Host

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held tcRefs)
open scoped Idealize.ShloMosaic.TcCoe

variable {F : FTy → Type} [FloatOps F] [Named F]

local notation "𝕄" => MT nD τ sig (HIx 1) (Elt F) ℕ (UU F) ℕ

attribute [local irreducible] Pipeline.scopedRest Pipeline.unscopedRest

/-! ## The buffers, stretch by stretch -/

variable (m : (ℓ : Loc nD τ sig) → Buf (Elt F) ℓ) (ρ : Dev nD → PrngReg)

def V0 : VV F := fun d b => m (d, b)
def V1 : VV F := X0 (V0 m)
def V2 : VV F := X1 (V1 m)
def V3 : VV F := fun d => after hostOps (V2 m d)
/-- The SparseCore call's table, indices and output buffer, of the buffers it finds. -/
def HW (W : VV F) : Held F := ⟨fun d => W d main_v1_1, fun d => W d main_v12, fun d => W d main_v13⟩
/-- The buffers after the SparseCore call. -/
def XS (W : VV F) : VV F := fun d => Function.update (W d) (Proc.devRef .tc main_v13) (gv (HW W) d)
abbrev HH : Held F := HW (V3 m)
def V4 : VV F := XS (V3 m)
def V5 : VV F := X3 (V4 m)
def V6 : VV F := fun d => after endOps (V5 m d)

theorem pre1 (d : Dev nD) : (rpre (X0 (V0 m) d) 0 d : sProp 𝕄) = iprop(unscopedBufs d (fun b => V1 m d b) ∗ owesN d 0) := rfl
theorem pre2 (d : Dev nD) : (rpre (X1 (V1 m) d) 0 d : sProp 𝕄) = iprop(unscopedBufs d (fun b => V2 m d b) ∗ owesN d 0) := rfl
theorem pre3 (d : Dev nD) : (rpre (X3 (V4 m) d) 1 d : sProp 𝕄) = iprop(unscopedBufs d (fun b => V5 m d b) ∗ owesN d 1) := rfl
theorem pre4 (d : Dev nD) : after hostOps (V2 m d) = V3 m d := rfl
theorem pre5 : XS (V3 m) = V4 m := rfl
theorem pre6 (d : Dev nD) : after endOps (V5 m d) = V6 m d := rfl

attribute [local irreducible] V1 V2 V3 V4 V5 V6

abbrev reg0' := reg0 (V0 m) (V1 m) (V4 m)
abbrev reg1' := reg1 (V0 m) (V1 m) (V4 m)
abbrev reg3' := reg3 (V0 m) (V1 m) (V4 m)

/-! ## One region of @main -/

/-- A pipeline's ghost state on a device. -/
abbrev ghost (p : Fin 3) (d : Dev nD) : sProp 𝕄 :=
  iprop(Pipeline.cellsGhost (Pipeline.pin (pcfgs (F := F)) adm) EP p d ∗ Pipeline.toksInit (Pipeline.pin (pcfgs (F := F)) adm) EP p d)

theorem region_step {W0 W1 W3 : VV F} {p : Fin 3}
    (R : Pipeline.RegionSeg (pcfgs (F := F)) adm (pd W0 W1 W3) none defs₀ 𝒱₀ (K (F := F)).L (K (F := F)).lev p) (d : Dev nD) (A B : Valuation τ sig (Elt F)) (n : ℕ)
    (hA : R.pre d = iprop(unscopedBufs d (fun b => A b) ∗ owesN d n)) (hB : R.post d = iprop(unscopedBufs d (fun b => B b) ∗ owesN d n)) (Q : PUnit → sProp 𝕄) :
    iprop(boundary (SparseCore.T d) ∗ (unscopedBufs d (fun b => A b) ∗ owesN d n) ∗ levAts (K (F := F)).L (K (F := F)).lev ∗ ghost p d
        ∗ ((boundary (SparseCore.T d) ∗ unscopedBufs d (fun b => B b) ∗ owesN d n) -∗ Q ⟨⟩))
      ⊢ wp frame (wpE ((K (F := F)).defs (D (F := F))) 𝒱 (SparseCore.T d) none) Set.univ
          (Prog.lift (.customCall (SparseCore.inner (Pipeline.entry p)) ())) Q := by
  rw [← hA, ← hB]
  refine BIBase.Entails.trans ?_ ((K (F := F)).wp_liftProg (D (F := F)) 𝒱 (SparseCore.T d) Set.univ none
    (.op (.customCall (Pipeline.entry p) ()) .ret) Q)
  refine BIBase.Entails.trans ?_ (Pipeline.RegionSeg.wp (pcfgs (F := F)) adm (pd W0 W1 W3) none cellOf_inj EP defs₀ 𝒱₀ (K (F := F)).L (K (F := F)).lev R d
    none (fun _ h => nomatch h) .ret Q)
  iintro ⟨Hb, Hp, Hl, ⟨Hc, Ht⟩, Hk⟩
  isplitl [Hk]
  · iintro H
    rw [wp_ret]; imodintro
    iapply Hk $$ H
  isplitl [Hb]; · iexact Hb
  isplitl [Hp]; · iexact Hp
  isplitl [Hl]; · iexact Hl
  isplitl [Hc]; · iexact Hc
  iexact Ht

/-! ## A line of host operations -/

theorem seq_step (d : Dev nD) (ops : List (HloOp τ sig (Elt F))) (hS : ops.Forall fun op => op.bufs ⊆ tcRefs τ sig)
    (hf : ops.Forall fun op => op.fresh = ∅) (V B : Valuation τ sig (Elt F)) (hB : after ops V = B) (Q : PUnit → sProp 𝕄) :
    iprop(boundary (SparseCore.T d) ∗ unscopedBufs d (fun b => V b) ∗ ((boundary (SparseCore.T d) ∗ unscopedBufs d (fun b => B b)) -∗ Q ⟨⟩))
      ⊢ wp frame (wpE ((K (F := F)).defs (D (F := F))) 𝒱 (SparseCore.T d) none) Set.univ (seq ops) Q := by
  rw [← hB, ← bind_pure (seq ops), Pipeline.unscopedBufs_held, Pipeline.unscopedBufs_held]
  iintro ⟨Hb, Hu, Hk⟩
  ihave Hw := (StableHlo.wp_seq (defs := (K (F := F)).defs (D (F := F))) (𝒱 := 𝒱) (bd := none) (E := Set.univ) d (Pipeline.ucRefs τ sig) pure ops
    (fun op h => Pipeline.sub_ucRefs op (List.forall_iff_forall_mem.mp hS op h)) (List.forall_iff_forall_mem.mp hf) V (K := Q)) $$ [Hb Hu]
  · isplitl [Hb]; · iexact Hb
    iexact Hu
  iapply Hw
  iintro H
  rw [wp_pure]; imodintro
  iapply Hk $$ H

/-! ## The SparseCore call -/

theorem three (d : Dev nD) (V : Valuation τ sig (Elt F)) :
    (unscopedBufs d (fun b => V b) : sProp 𝕄)
      = iprop((tLoc d ↦{fullShare} V main_v1_1) ∗ (iLoc d ↦{fullShare} V main_v12) ∗ (oLoc d ↦{fullShare} V main_v13)
        ∗ bigSep ((((Finset.univ.filter fun b : Ref sig .tc => ¬ b.isScoped).erase main_v1_1).erase main_v12).erase main_v13)
            fun b => ((SparseCore.T d : Thread nD τ).loc b) ↦{fullShare} V b) := by
  unfold unscopedBufs
  rw [SparseCore.bigSep_erase' (i := main_v1_1) (by decide), SparseCore.bigSep_erase' (i := main_v12) (by decide),
    SparseCore.bigSep_erase' (i := main_v13) (by decide)]

theorem three_after (W : VV F) (d : Dev nD) :
    (unscopedBufs d (fun b => XS W d b) : sProp 𝕄)
      = iprop((tLoc d ↦{fullShare} W d main_v1_1) ∗ (iLoc d ↦{fullShare} W d main_v12) ∗ (oLoc d ↦{fullShare} gv (HW W) d)
        ∗ bigSep ((((Finset.univ.filter fun b : Ref sig .tc => ¬ b.isScoped).erase main_v1_1).erase main_v12).erase main_v13)
            fun b => ((SparseCore.T d : Thread nD τ).loc b) ↦{fullShare} W d b) := by
  have h1 : XS W d main_v1_1 = W d main_v1_1 := upd_ne _ (by decide)
  have h2 : XS W d main_v12 = W d main_v12 := upd_ne _ (by decide)
  have h3 : XS W d main_v13 = gv (HW W) d := Function.update_self _ _ _
  have h4 : (bigSep ((((Finset.univ.filter fun b : Ref sig .tc => ¬ b.isScoped).erase main_v1_1).erase main_v12).erase main_v13)
            fun b => (((SparseCore.T d : Thread nD τ).loc b) ↦{fullShare} XS W d b : sProp 𝕄))
      = bigSep ((((Finset.univ.filter fun b : Ref sig .tc => ¬ b.isScoped).erase main_v1_1).erase main_v12).erase main_v13)
            fun b => (((SparseCore.T d : Thread nD τ).loc b) ↦{fullShare} W d b : sProp 𝕄) :=
    bigSep_congr fun b hb => by
      have h : XS W d b = W d b := upd_ne _ (Finset.ne_of_mem_erase hb)
      rw [h]
  rw [three d (XS W d), h1, h2, h3, h4]

theorem sc_step (W : VV F) (κ : GSem nD τ sig → ℕ) (d : Dev nD) (Q : PUnit → sProp 𝕄) :
    iprop((K (F := F)).ctx EH (P (HW W)) κ ∗ (K (F := F)).tcSt EH d 0 ∗ wmOn ∗ unscopedBufs d (fun b => W d b)
        ∗ (((K (F := F)).tcSt EH d 1 ∗ unscopedBufs d (fun b => XS W d b)) -∗ Q ⟨⟩))
      ⊢ wp frame (wpE ((K (F := F)).defs (D (F := F))) 𝒱 (SparseCore.T d) none) Set.univ (sc.run d 0) Q := by
  rw [three d (W d), three_after W d]
  iintro ⟨#Hctx, Hst, #Hw, ⟨Ht, Hi, Ho, Hr⟩, Hk⟩
  imod (st_split (HW W) d) $$ [Ht Hi Ho] with Hs
  · isplitr; · iexact Hw
    isplitl [Ht]; · iexact Ht
    isplitl [Hi]; · iexact Hi
    iexact Ho
  iapply (wp_fupd frame (wpE ((K (F := F)).defs (D (F := F))) 𝒱 (SparseCore.T d) none) Set.univ (sc.run d 0) Q)
  iapply ((K (F := F)).wp_run (D (F := F)) 𝒱 (EH := EH) (P := P (HW W)) κ d 0)
  isplitr; · iexact Hctx
  isplitl [Hst]; · iexact Hst
  isplitl [Hs]; · iexact Hs
  iintro ⟨Hst, Hdn⟩
  imod (dn_join (HW W) d) $$ [Hdn] with ⟨Ht, Hi, Ho⟩
  · isplitr; · iexact Hw
    iexact Hdn
  imodintro
  iapply Hk
  isplitl [Hst]; · iexact Hst
  isplitl [Ht]; · iexact Ht
  isplitl [Hi]; · iexact Hi
  isplitl [Ho]; · iexact Ho
  iexact Hr

/-! ## @main on the TensorCore -/

theorem tcSt_split (d : Dev nD) (n : ℕ) : ∃ R : sProp 𝕄, (K (F := F)).tcSt EH d n = iprop(owesN d n ∗ R) :=
  ⟨_, by unfold SparseCore.Cfg.tcSt; rfl⟩

/-- What @main's proof starts from, besides the launch. -/
abbrev GG (d : Dev nD) : sProp 𝕄 := iprop(wmOn ∗ ghost 0 d ∗ ghost 1 d ∗ ghost 2 d)
/-- What @main leaves. -/
abbrev FIN (d : Dev nD) : sProp 𝕄 := unscopedBufs d (fun b => V6 m d b)

set_option maxHeartbeats 4000000 in
theorem hmain (κ : GSem nD τ sig → ℕ) (d : Dev nD) :
    iprop((K (F := F)).ctx EH (P (HH m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, h0⟩ := tcSt_split (F := F) d 0
  obtain ⟨R1, h1⟩ := tcSt_split (F := F) d 1
  unfold SparseCore.Cfg.tcRes SparseCore.Cfg.tcEnd
  have hsc := fun Q => sc_step (V3 m) κ d Q
  rw [h0, h1, pre5] at hsc
  rw [main_eq, h0, h1]
  simp only [wp_bind]
  iintro ⟨#Hctx, Hst, ⟨Hb, Hub, Hts, -⟩, #Hw, Hg0, Hg1, Hg2⟩
  ihave #Hlev := ((K (F := F)).ctx_levAts κ) $$ Hctx
  icases Hst with ⟨HO, HR⟩
  iapply (region_step (reg0' m) d (V0 m d) (V1 m d) 0 rfl (pre1 m d))
  isplitl [Hb]; · iexact Hb
  isplitl [Hub HO]
  · isplitl [Hub]; · iexact Hub
    iexact HO
  isplitr; · iexact Hlev
  isplitl [Hg0]; · iexact Hg0
  iintro ⟨Hb, Hub, HO⟩
  iapply (region_step (reg1' m) d (V1 m d) (V2 m d) 0 rfl (pre2 m d))
  isplitl [Hb]; · iexact Hb
  isplitl [Hub HO]
  · isplitl [Hub]; · iexact Hub
    iexact HO
  isplitr; · iexact Hlev
  isplitl [Hg1]; · iexact Hg1
  iintro ⟨Hb, Hub, HO⟩
  iapply (seq_step d hostOps hostOps_sub hostOps_fresh (V2 m d) (V3 m d) (pre4 m d))
  isplitl [Hb]; · iexact Hb
  isplitl [Hub]; · iexact Hub
  iintro ⟨Hb, Hub⟩
  iapply (hsc _)
  isplitr; · iexact Hctx
  isplitl [HO HR]
  · isplitl [HO]; · iexact HO
    iexact HR
  isplitr; · iexact Hw
  isplitl [Hub]; · iexact Hub
  iintro ⟨⟨HO, HR⟩, Hub⟩
  iapply (region_step (reg3' m) d (V4 m d) (V5 m d) 1 rfl (pre3 m d))
  isplitl [Hb]; · iexact Hb
  isplitl [Hub HO]
  · isplitl [Hub]; · iexact Hub
    iexact HO
  isplitr; · iexact Hlev
  isplitl [Hg2]; · iexact Hg2
  iintro ⟨Hb, Hub, HO⟩
  iapply (seq_step d endOps endOps_sub endOps_fresh (V5 m d) (V6 m d) (pre6 m d))
  isplitl [Hb]; · iexact Hb
  isplitl [Hub]; · iexact Hub
  iintro ⟨Hb, Hub⟩
  isplitl [HO HR]
  · isplitl [HO]; · iexact HO
    iexact HR
  isplitl [Hub]; · iexact Hub
  isplitl [Hb]; · iexact Hb
  iexact Hts

end Cert.ScLoss

end
-- ==== Proof.Walk.lean ====
/-
  The host operations' results: the packed rows' indices and the halves' mask as functions of the targets, and the
  buffers the operations leave alone.
-/
module

public import proofs.«01_k».proof.Proof.Main
public import Idealize.ShloMosaic.Lib.Routing.Words
public import Idealize.ShloMosaic.Lib.Pipeline.Value

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open scoped Idealize.ShloMosaic.TcCoe

variable {F : FTy → Type} [FloatOps F] [Named F]

local notation "𝕄" => MT nD τ sig (HIx 1) (Elt F) ℕ (UU F) ℕ

open Idealize.ShloMosaic.Routing (pyDiv pyRem)

/-- The row of packed-row indices: `(x / 4000) * 2000 + x % 2000`, word for word. -/
def idxVec (x : IVec S1024 32) : IVec S1x1024 32 :=
  shapeCast S1x1024 (addi (muli (pyDiv bcast_S_S1024 x (constantI S_ 32 4000#32)) (broadcastInDim S1024 ![] bcast_S_S1024 (constantI S_ 32 2000#32)))
    (pyRem bcast_S_S1024 x (constantI S_ 32 2000#32))) shapeCasts_S1024_S1x1024

/-- The column of the mask: one where `x % 4000 < 2000`. -/
def maskVec (x : IVec S1024 32) : Vec F S1024x1 .f32 :=
  shapeCast S1024x1 (uitofp .f32 (cmpi .slt (pyRem bcast_S_S1024 x (constantI S_ 32 4000#32)) (broadcastInDim S1024 ![] bcast_S_S1024 (constantI S_ 32 2000#32)))) shapeCasts_S1024_S1024x1

set_option maxRecDepth 8192 in
set_option maxHeartbeats 4000000 in
theorem host_v12 (V : Valuation τ sig (Elt F)) : after hostOps V main_v12 = idxVec (V main_arg1) := by
  simp only [hostOps, TRef.binary, TRef.nullary, TRef.reshape, TRef.ternary, TRef.unary, TRef.toBuf, TRef.ofBuf, cast_eq]
  after_results_simp <;> rfl

set_option maxRecDepth 8192 in
set_option maxHeartbeats 4000000 in
theorem host_v11 (V : Valuation τ sig (Elt F)) : after hostOps V main_v11 = maskVec (V main_arg1) := by
  simp only [hostOps, TRef.binary, TRef.nullary, TRef.reshape, TRef.ternary, TRef.unary, TRef.toBuf, TRef.ofBuf, cast_eq]
  after_results_simp <;> rfl

/-- The buffers the host operations write, in order. -/
abbrev hostW : List (Ref sig .tc) :=
  [main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v2, main_c_0, main_v3, main_v4, main_c_1, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v5, main_v6, main_c_2, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v7, main_c_3, main_v8, main_v9, main_v10, main_v11, main_v12]

set_option maxRecDepth 8192 in
theorem host_kept (V : Valuation τ sig (Elt F)) {r : Ref sig .tc} (hr : r ∉ hostW) : after hostOps V r = V r :=
  after_of_writes_sub hostOps V (forall_writes_sub_of_map rfl) hr

theorem end_v15 (V : Valuation τ sig (Elt F)) : after endOps V main_v15 = shapeCast S_ (V main_v14) shapeCasts_S1x1_S_ := by
  simp only [endOps]
  after_results_simp <;> rfl

theorem end_kept (V : Valuation τ sig (Elt F)) {r : Ref sig .tc} (hr : r ≠ main_v15) : after endOps V r = V r :=
  after_of_writes_sub (W := [main_v15]) endOps V (forall_writes_sub_of_map rfl) (by simpa using hr)

/-! ## The words -/

open Idealize.ShloMosaic.ValueIdx (ix0 ix1 ix2)

theorem idxVec_at (x : IVec S1024 32) (r : Fin 1024) {a : ℕ} (hx : x (ix1 r) = BitVec.ofNat 32 a) (ha : a < 100000) :
    idxVec x (ixAt r) = BitVec.ofNat 32 (a / 4000 * 2000 + a % 2000) := by
  unfold idxVec
  rw [shapeCast_apply _ _ _ (ix1 r) (by rw [Shape.rowMajor_val_one, Shape.rowMajor_val_two]; show r.val = 0 * 1024 + r.val; omega)]
  rw [Routing.addi_ap, Routing.muli_ap, Routing.pyDiv_ap bcast_S_S1024 x (constantI S_ 32 4000#32) (ix1 r) (b := 4000) hx rfl (by omega) (by omega) (by omega),
    Routing.pyRem_ap bcast_S_S1024 x (constantI S_ 32 2000#32) (ix1 r) (b := 2000) hx rfl (by omega) (by omega) (by omega)]
  show BitVec.ofNat 32 (a / 4000) * BitVec.ofNat 32 2000 + BitVec.ofNat 32 (a % 2000) = _
  rw [← BitVec.ofNat_mul, ← BitVec.ofNat_add]

theorem maskVec_at (x : IVec S1024 32) (r : Fin 1024) {a : ℕ} (hx : x (ix1 r) = BitVec.ofNat 32 a) (ha : a < 100000) :
    maskVec (F := F) x (ix2 r 0) = FloatOps.uitofp .f32 (BitVec.ofBool (decide (a % 4000 < 2000))) := by
  unfold maskVec
  rw [shapeCast_apply _ _ _ (ix1 r) (by rw [Shape.rowMajor_val_one, Shape.rowMajor_val_two]; show r.val = r.val * 1 + 0; omega)]
  show FloatOps.uitofp .f32 (IntOp.cmpi .slt (pyRem bcast_S_S1024 x (constantI S_ 32 4000#32) (ix1 r)) (BitVec.ofNat 32 2000)) = _
  rw [Routing.pyRem_ap bcast_S_S1024 x (constantI S_ 32 4000#32) (ix1 r) (b := 4000) hx rfl (by omega) (by omega) (by omega),
    WordCmp.cmpi_slt_ofNat (w := 32) (by omega) (by omega)]

/-- A word signed at least zero and signed below 100000 is below 100000. -/
theorem word_lt (w : BitVec 32) (h : IntOp.andi (IntOp.cmpi .sge w 0#32) (IntOp.cmpi .slt w 100000#32) = 1#1) : w.toNat < 100000 := by
  have andi_ofBool (p q : Bool) : IntOp.andi (BitVec.ofBool p) (BitVec.ofBool q) = BitVec.ofBool (p && q) := by
    cases p <;> cases q <;> decide
  have e : IntOp.andi (IntOp.cmpi .sge w 0#32) (IntOp.cmpi .slt w 100000#32) = BitVec.ofBool ((0#32).sle w && w.slt 100000#32) := andi_ofBool _ _
  rw [e] at h
  have hb : ((0#32).sle w && w.slt 100000#32) = true := by
    cases hb : ((0#32).sle w && w.slt 100000#32) with
    | true => rfl
    | false => rw [hb] at h; exact absurd h (by decide)
  rw [Bool.and_eq_true, BitVec.sle_eq_decide, BitVec.slt_eq_decide, decide_eq_true_eq, decide_eq_true_eq] at hb
  obtain ⟨h0, h1⟩ := hb
  rw [show (0#32).toInt = 0 by decide] at h0
  rw [show (100000#32).toInt = 100000 by decide] at h1
  rw [BitVec.toInt_eq_toNat_cond] at h0 h1
  split at h1
  · omega
  · rename_i hc
    rw [if_neg hc] at h0
    have := w.isLt
    omega

end Cert.ScLoss

end
-- ==== Proof.Run.lean ====
/-
  The launch: the ghost state dealt to @main and the SparseCore tasks, and what every weakly fair execution of the
  program ends at.
-/
module

public import proofs.«01_k».proof.Proof.Main

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held tcRefs)
open scoped Idealize.ShloMosaic.TcCoe

variable {F : FTy → Type} [FloatOps F] [Named F]

local notation "𝕄" => MT nD τ sig (HIx 1) (Elt F) ℕ (UU F) ℕ

attribute [local irreducible] Pipeline.scopedRest Pipeline.unscopedRest

variable (m : (ℓ : Loc nD τ sig) → Buf (Elt F) ℓ) (ρ : Dev nD → PrngReg)

/-! ## The ghost state at launch -/

/-- The pipelines' rounds at launch. -/
abbrev uP : UP := initOf (Pipeline.cells (Pipeline.pin (pcfgs (F := F)) adm) cellOf_inj) (Pipeline.launchToks (Pipeline.pin (pcfgs (F := F)) adm) cellOf_inj)

def u₀ : UU F := (initOf (K (F := F)).hsCells (K (F := F)).hsToks, (uP (F := F), (wm₀ nD τ sig (Elt F), 1)))

theorem three_ghosts (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem fundP : (BI.own (((Emb.inl : Emb UP (UP × UW F)).trans embR) (uP (F := F))) : sProp 𝕄)
    ⊢ |==> iprop((bigSep Finset.univ fun d : Dev nD => bigSep Finset.univ fun p => Pipeline.cellsGhost (Pipeline.pin (pcfgs (F := F)) adm) EP p d)
      ∗ (bigSep Finset.univ fun d : Dev nD => bigSep Finset.univ fun p => Pipeline.toksInit (Pipeline.pin (pcfgs (F := F)) adm) EP p d)) :=
  Pipeline.fund_ghost (Pipeline.pin (pcfgs (F := F)) adm) EP cellOf_inj

theorem wmOn_alloc (m₀ : MemSt nD τ sig (Elt F)) :
    (BI.own (((Emb.inl : Emb (WmRA nD τ sig (Elt F)) (UW F)).trans ((Emb.inr : Emb (UW F) (UP × UW F)).trans embR)) (wm₀ nD τ sig (Elt F))) : sProp 𝕄)
      ⊢ |={Set.univ}=> wmOn := by
  refine BIBase.Entails.trans (wmInv_alloc (Ix := HIx 1) (Name := ℕ) (Lvl := ℕ) (emb := wmE (F := F)) m₀ (E := Set.univ)) ?_
  iintro H
  imod H with ⟨%ι, -, #Hw⟩
  imodintro
  unfold wmOn; iexists ι; iexact Hw

theorem gg_join : iprop(wmOn ∗ (bigSep Finset.univ fun d : Dev nD => bigSep Finset.univ fun p => Pipeline.cellsGhost (Pipeline.pin (pcfgs (F := F)) adm) EP p d)
      ∗ (bigSep Finset.univ fun d : Dev nD => bigSep Finset.univ fun p => Pipeline.toksInit (Pipeline.pin (pcfgs (F := F)) adm) EP p d))
    ⊢ (bigSep Finset.univ fun d : Dev nD => GG d : sProp 𝕄) := by
  rw [bigSep_univ_of_subsingleton (0 : Dev nD), bigSep_univ_of_subsingleton (0 : Dev nD), bigSep_univ_of_subsingleton (0 : Dev nD),
    three_ghosts, three_ghosts]
  iintro ⟨#Hw, ⟨H0, H1, H2⟩, T0, T1, T2⟩
  isplitr; · iexact Hw
  isplitl [H0 T0]
  · isplitl [H0]; · iexact H0
    iexact T0
  isplitl [H1 T1]
  · isplitl [H1]; · iexact H1
    iexact T1
  isplitl [H2]; · iexact H2
  iexact T2

theorem deal (m₀ : MemSt nD τ sig (Elt F)) : (ownU (u₀ (F := F)) : sProp 𝕄)
    ⊢ |={Set.univ}=> iprop(BI.own (EH (initOf (K (F := F)).hsCells (K (F := F)).hsToks)) ∗ (bigSep Finset.univ fun d : Dev nD => GG d) ∗ wmOn) := by
  unfold u₀
  iintro Hu
  ihave H := (ownU_pair _ _) $$ Hu
  icases H with ⟨HH, HR⟩
  ihave H := (own_pair_emb embR _ _) $$ HR
  icases H with ⟨HP, HR⟩
  ihave H := (own_pair_emb _ _ _) $$ HR
  icases H with ⟨HW, -⟩
  imod fundP $$ HP with ⟨Hc, Ht⟩
  imod (wmOn_alloc m₀) $$ HW with #Hwm
  imodintro
  isplitl [HH]; · iexact HH
  isplitl [Hc Ht]
  · iapply gg_join
    isplitr; · iexact Hwm
    isplitl [Hc]; · iexact Hc
    iexact Ht
  iexact Hwm

theorem hu₀ (m₀ : MemSt nD τ sig (Elt F)) : (ownU (u₀ (F := F)) : sProp 𝕄)
    ⊢ |={Set.univ}=> iprop(BI.own (EH (initOf (K (F := F)).hsCells (K (F := F)).hsToks)) ∗ (bigSep Finset.univ fun d : Dev nD => GG d)
      ∗ bigSep Finset.univ fun thr : Thread nD τ => bigSep Finset.univ fun q : Fin 1 => (P (HH m)).x q thr) := by
  refine BIBase.Entails.trans (deal m₀) ?_
  iintro H
  imod H with ⟨HH, HG, #Hw⟩
  imodintro
  isplitl [HH]; · iexact HH
  isplitl [HG]; · iexact HG
  iapply (BI.bigSep_of_persistent Finset.univ (iprop(bigSep Finset.univ fun _ : Fin 1 => wmOn (F := F))))
  iapply (BI.bigSep_of_persistent Finset.univ (wmOn (F := F)))
  iexact Hw

/-! ## What the run ends at -/

def fq (d : Dev nD) (s' : Phys nD τ sig (Elt F)) : Prop :=
  ∀ b : Ref sig .tc, ¬ b.isScoped → s'.mem.mem ((SparseCore.T d : Thread nD τ).loc b) = V6 m d b

theorem hfin (d : Dev nD) (s' : Phys nD τ sig (Elt F)) : iprop(FIN m d ∗ SI s') ⊢ (⌜fq m d s'⌝ : sProp 𝕄) := by
  have one (b : Ref sig .tc) (hb : ¬ b.isScoped) :
      iprop(FIN m d ∗ SI s') ⊢ (⌜s'.mem.mem ((SparseCore.T d : Thread nD τ).loc b) = V6 m d b⌝ : sProp 𝕄) := by
    iintro ⟨Hu, HSI⟩
    ihave Hb := (show FIN m d ⊢ (((SparseCore.T d : Thread nD τ).loc b) ↦{fullShare} V6 m d b : sProp 𝕄) from
      bigSep_elim (s := Finset.univ.filter fun b : Ref sig .tc => ¬ b.isScoped)
        (Φ := fun b => (((SparseCore.T d : Thread nD τ).loc b) ↦{fullShare} V6 m d b : sProp 𝕄)) (Finset.mem_filter.mpr ⟨Finset.mem_univ b, hb⟩)) $$ Hu
    ihave H := (SI_pointsTo_agree (st := s') (ℓ := (SparseCore.T d : Thread nD τ).loc b) (I := Finset.univ) (q := fullShare) (f := V6 m d b)) $$ [HSI Hb]
    · isplitl [HSI]; · iexact HSI
      iexact Hb
    icases H with %h
    ipureintro; exact funext fun i => h i (Finset.mem_univ i)
  exact (BI.Laws.forall_intro fun b => (BI.Laws.forall_intro fun hb => one b hb).trans BI.Laws.pure_forall.2).trans BI.Laws.pure_forall.2

/-- Every buffer at the valuation @main leaves, every semaphore zero. -/
def QC : PUnit × MemSt nD τ sig (Elt F) → Prop :=
  fun r => (∀ d : Dev nD, ∀ b : Ref sig .tc, ¬ b.isScoped → r.2.mem ((SparseCore.T d : Thread nD τ).loc b) = V6 m d b) ∧ r.2.sem = fun _ => 0

theorem run_main [∀ e, Nonempty (Elt F e)] (hok : RowsOK (HH m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (HH m)) (A := ∅) scFacts v₀
    (fun q hq => match q with | 0 => nomatch hq)
    (fun q _ => match q with | 0 => tileObl (HH m) hok)
    (fun q _ => match q with | 0 => SparseCore.Cfg.VecSplit.of_plain (vecSplit (HH m)))
    m ρ main (fun d => GG d) (FIN m) (u₀ (F := F)) (sep_elim_left.trans (hu₀ m ⟨m, fun _ => 0, ρ⟩)) (hmain m ρ) (fq m) (hfin m) (QC m) (fun _ h hz => ⟨h, hz⟩)

end Cert.ScLoss

end
-- ==== Proof.Keep.lean ====
/-
  What a run leaves alone: the arguments end as they began and every semaphore at zero, for any format family.
-/
module

public import proofs.«01_k».proof.Proof.Walk
public import proofs.«01_k».proof.Proof.Run

@[expose] public section

noncomputable section

namespace Cert.ScLoss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open scoped Idealize.ShloMosaic.TcCoe

variable {F : FTy → Type} [FloatOps F] [Named F]

local notation "𝕄" => MT nD τ sig (HIx 1) (Elt F) ℕ (UU F) ℕ

variable (m : (ℓ : Loc nD τ sig) → Buf (Elt F) ℓ) (ρ : Dev nD → PrngReg)

open Idealize.ShloMosaic.ValueIdx (ix0 ix1 ix2)

/-! ## Buffers kept, stretch by stretch -/

theorem V1_kept (d : Dev nD) {r : Ref sig .tc} (h : r ≠ main_v0) : V1 m d r = m ((SparseCore.T d : Thread nD τ).loc r) := upd_ne _ h
theorem V2_kept (d : Dev nD) {r : Ref sig .tc} (h0 : r ≠ main_v1_0) (h1 : r ≠ main_v1_1) : V2 m d r = V1 m d r :=
  (upd_ne _ h1).trans (upd_ne _ h0)
theorem V3_kept (d : Dev nD) {r : Ref sig .tc} (h : r ∉ hostW) : V3 m d r = V2 m d r := host_kept _ h
theorem V4_kept (d : Dev nD) {r : Ref sig .tc} (h : r ≠ main_v13) : V4 m d r = V3 m d r := upd_ne _ h
theorem V5_kept (d : Dev nD) {r : Ref sig .tc} (h : r ≠ main_v14) : V5 m d r = V4 m d r := upd_ne _ h
theorem V6_kept (d : Dev nD) {r : Ref sig .tc} (h : r ≠ main_v15) : V6 m d r = V5 m d r := end_kept _ h

/-- A buffer nothing writes ends as it began. -/
theorem kept (d : Dev nD) {r : Ref sig .tc} (h : r ∉ main_v0 :: main_v1_0 :: main_v1_1 :: main_v13 :: main_v14 :: main_v15 :: hostW) :
    V6 m d r = m ((SparseCore.T d : Thread nD τ).loc r) := by
  simp only [List.mem_cons, not_or] at h
  obtain ⟨h0, h10, h11, h13, h14, h15, hW⟩ := h
  rw [V6_kept m d h15, V5_kept m d h14, V4_kept m d h13, V3_kept m d (by simpa only [List.mem_cons, not_or] using hW), V2_kept m d h10 h11, V1_kept m d h0]

theorem V3_arg1 (d : Dev nD) : V2 m d main_arg1 = m (a1Loc d) := by
  rw [V2_kept m d (by decide) (by decide), V1_kept m d (by decide)]

/-- The targets name rows of the memory. -/
def InRange : Prop := ∀ (d : Dev nD) (r : Fin 1024), (m (a1Loc d) (ix1 r)).toNat < 100000

theorem rows_ok (h : InRange m) : RowsOK (HH m) := fun d r => by
  have e : (HH m).iv d (ixAt r) = BitVec.ofNat 32 ((m (a1Loc d) (ix1 r)).toNat / 4000 * 2000 + (m (a1Loc d) (ix1 r)).toNat % 2000) := by
    show V3 m d main_v12 (ixAt r) = _
    rw [show V3 m d main_v12 = idxVec (V2 m d main_arg1) from host_v12 _, V3_arg1]
    exact idxVec_at _ r (by rw [BitVec.ofNat_toNat, BitVec.setWidth_eq]) (h d r)
  have hb := h d r
  have h1 : (m (a1Loc d) (ix1 r)).toNat / 4000 ≤ 24 := by omega
  have h2 : (m (a1Loc d) (ix1 r)).toNat % 2000 < 2000 := Nat.mod_lt _ (by norm_num)
  rw [e, BitVec.toNat_ofNat, Nat.mod_eq_of_lt (by omega)]
  omega

/-- From targets in range the program runs, ends with its arguments unchanged and every semaphore at zero. -/
theorem run_kept [∀ e, Nonempty (Elt F e)] (h : InRange m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.KernelIdeal.defs _ _).mono (fun r hr => ⟨fun c =>
    ⟨(hr.1 c main_arg0 (by decide)).trans (kept m c (by decide)), (hr.1 c main_arg1 (by decide)).trans (kept m c (by decide)),
      (hr.1 c main_arg2 (by decide)).trans (kept m c (by decide)), (hr.1 c main_arg3 (by decide)).trans (kept m c (by decide)),
      (hr.1 c main_arg4 (by decide)).trans (kept m c (by decide))⟩, hr.2⟩)
    (run_main m ρ (rows_ok m h))

end Cert.ScLoss

end
-- ==== Proof.Same.lean ====
/-
  The kernel as printed is the idealization at the machine's words, each named constant read as its printed word. So what is
  proved of the idealization at every float model holds of the kernel as printed.
-/
module

public import proofs.«01_k».proof.Proof.Gen.Kernel
public import proofs.«01_k».proof.Proof.Gen.KernelIdeal
public import proofs.«01_k».proof.Proof.Keep

@[expose] public section

noncomputable section

namespace Cert.ScLoss

open Idealize.ShloMosaic Idealize.SL.Sem
open Idealize.ShloMosaic.ValueIdx (ix0 ix1 ix2)

/-! ## The kernel as printed -/

/-- Every named constant the printed word itself: at the machine's words the idealization is the kernel as printed. -/
abbrev wordNamed : Named Bits := ⟨fun _ _ {φ} bits => Scalar.ofBits φ bits⟩

theorem norm_same : @Cert.KernelIdeal.cc0__norm_kernel Bits _ wordNamed _ = Cert.Kernel.cc0__norm_kernel (F := Bits) := rfl
theorem lse_same : @Cert.KernelIdeal.cc1__lse_kernel Bits _ _ = Cert.Kernel.cc1__lse_kernel (F := Bits) := rfl
theorem sc_same : @Cert.KernelIdeal.cc2__sc_kernel Bits _ = Cert.Kernel.cc2__sc_kernel (F := Bits) := rfl
theorem combine_same : @Cert.KernelIdeal.cc3__combine_kernel Bits _ wordNamed _ = Cert.Kernel.cc3__combine_kernel (F := Bits) := rfl

set_option maxHeartbeats 2000000 in
theorem defs₀_same : @Cert.KernelIdeal.defs₀ Bits _ wordNamed _ = Cert.Kernel.defs₀ (F := Bits) := by
  funext p ℓ a
  match p, ℓ, a with
  | .tc, 0, (t, s) => rfl
  | .tc, 1, (t, s) => rfl
  | .tc, 2, a => rfl
  | .tc, 3, (t, s) => rfl
  | .scVector c s, 0, a => rfl
  | .scVector c s, 1, a => rfl
  | .scVector c s, 2, a => rfl
  | .scVector c s, 3, a => rfl
  | .scScalar c, 0, a => rfl
  | .scScalar c, 1, a => rfl
  | .scScalar c, 2, a => rfl
  | .scScalar c, 3, a => rfl

theorem defs_same : @Cert.KernelIdeal.defs Bits _ wordNamed _ = Cert.Kernel.defs (F := Bits) :=
  congrArg (fun e => (Cert.Kernel.sc (F := Bits)).defs (Pipeline.defs Cert.Kernel.pcfgs e)) defs₀_same
set_option maxHeartbeats 2000000 in
theorem main_same : @Cert.KernelIdeal.main Bits _ _ = Cert.Kernel.main (F := Bits) := rfl
set_option maxHeartbeats 2000000 in
theorem threads_same : @Cert.KernelIdeal.threads Bits _ _ = Cert.Kernel.threads (F := Bits) :=
  congrArg (fun p => (Cert.Kernel.sc (F := Bits)).threads p) main_same

end Cert.ScLoss

end
-- ==== Proof.Frames.lean ====
/-
  The claims that state no value: the kernel as printed and its idealization run and keep their arguments, the
  reference runs and keeps its arguments, and the idealization's constants have the values the certificate names.
-/
module

public import proofs.«01_k».proof.Defs
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite_in_range
public import proofs.«01_k».proof.Proof.Same
public import proofs.«01_k».proof.Proof.Words
public import Idealize.ShloMosaic.Lib.Quiescent
public import Idealize.ShloMosaic.Lib.ReduceAll

@[expose] public section

noncomputable section

namespace Cert.ScLoss

open Idealize.ShloMosaic Idealize.SL.Sem
open Idealize.ShloMosaic.ValueIdx (ix0 ix1 ix2)

/-! ## The preconditions, read -/

/-- Every target names a class, read off the range test's words. -/
theorem inRange_of_words {F : FTy → Type} (m : (ℓ : Loc Cert.KernelIdeal.nD Cert.KernelIdeal.τ Cert.KernelIdeal.sig) → Buf (Elt F) ℓ)
    (h : ∀ d r, IntOp.andi (IntOp.cmpi .sge (m (a1Loc d) (ix1 r)) 0#32) (IntOp.cmpi .slt (m (a1Loc d) (ix1 r)) 100000#32) = 1#1) : InRange m :=
  fun d r => word_lt _ (h d r)

theorem inRange_K (m : (ℓ : Loc Cert.Kernel.nD Cert.Kernel.τ Cert.Kernel.sig) → Buf (Elt Bits) ℓ) (h : Cert.Pre_Kernel m) :
    InRange (F := Bits) m :=
  inRange_of_words m fun d r => congrFun (h d) (ix1 r)

theorem inRange_KI (m : (ℓ : Loc Cert.KernelIdeal.nD Cert.KernelIdeal.τ Cert.KernelIdeal.sig) → Buf (Elt Ideal) ℓ)
    (h : Cert.Pre_KernelIdeal m) : InRange m :=
  inRange_of_words m fun d r => congrFun (h d) (ix1 r)

/-- A one-element array repeated along the rows is read back from any row. -/
theorem of_repeated {S : Shape} (h : Cert.Pre_finite_in_range.S_.BroadcastsInDim S (![] : Fin 0 → Fin S.rank))
    (x : IVec Cert.Pre_finite_in_range.S_ 1) (r : S.Idx) (e : broadcastInDim S ![] h x r = 1#1) : ∃ j, x j = 1#1 := ⟨_, e⟩

/-- The second precondition is three tests joined: the features' finiteness, then the range test's two halves. -/
theorem finite_in_range (m : (ℓ : Loc Cert.KernelIdeal.nD Cert.KernelIdeal.τ Cert.KernelIdeal.sig) → Buf (Elt Ideal) ℓ)
    (h : Cert.Pre_KernelIdeal_finite_in_range m) :
    InRange m ∧ ∀ (d : Dev Cert.KernelIdeal.nD) (i : Cert.KernelIdeal.S100000x64.Idx),
      FloatOps.cmpf .olt (FloatOps.hostAbsf (F := Ideal) (m ((d.tc : Thread Cert.KernelIdeal.nD Cert.KernelIdeal.τ).loc Cert.KernelIdeal.main_arg4) i))
        (FloatOps.ofBits (F := Ideal) .f32 0x7F800000#32) = 1#1 := by
  have hh := fun d r => (IntOp.andi_eq_one.1 (congrFun (h d) (ix1 r)))
  have hl := fun d r => (IntOp.andi_eq_one.1 (hh d r).1)
  refine ⟨inRange_of_words m fun d r => IntOp.andi_eq_one.2 ⟨(hl d r).2, (hh d r).2⟩,
    fun d i => ?_⟩
  obtain ⟨j, hj⟩ := of_repeated _ _ _ (hl d 0).1
  exact Host.reduce_andi_all _ _ _ _ j hj i

/-! ## The runs -/

/-- A run of one program is a run of an equal one. -/
theorem run_of_same {nD : Nat} {τ : Topo} {sig : RefSig} {Val : EltTy → Type} {Λ : Labels} {D D' : Defs nD τ sig Val Λ} (hD : D = D')
    {t t' : (c : Thread nD τ) → Prog (TpuEff nD τ sig Val Λ c.2) PUnit} (ht : t = t') (σ : MemSt nD τ sig Val) (Q : PUnit × MemSt nD τ sig Val → Prop)
    (h : θ_run D t σ Q) : θ_run D' t' σ Q := by
  subst hD; subst ht; exact h

theorem frame_P : Cert.quiescent_Kernel := fun m g h =>
  run_of_same defs_same threads_same ⟨m, fun _ => 0, g⟩ _ (@run_kept Bits _ wordNamed m g _ (inRange_K m h))

theorem frame_PI : Cert.quiescent_KernelIdeal := fun m g h => run_kept m g (inRange_KI m h)

theorem frame_PI_finite : Cert.quiescent_KernelIdeal_pre_finite_in_range := fun m g h => run_kept m g (finite_in_range m h).1

theorem frame_RI : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_RI_finite : Cert.quiescent_ReferenceIdeal_pre_finite_in_range := fun m g _ => frame_RI m g trivial

/-! ## The named constants -/

theorem named_of (n : String) (b : BitVec FTy.f32.bits) (v : EReal) (h : Cert.KernelIdeal.κ n = some v) :
    IdealRules.named_const.Statement Cert.KernelIdeal.κ n .f32 b v :=
  ⟨h, fun _ => IdealRules.named_const.ideal_named (φ := .f32) _ _ b v h, IdealRules.named_const.ideal_named_scalar (φ := .f32) _ _ b v h⟩

theorem preserves : Cert.preserves_Kernel_KernelIdeal :=
  ⟨named_of _ _ _ rfl, named_of _ _ _ rfl, named_of _ _ _ rfl⟩

end Cert.ScLoss

end
-- ==== Proof.Spec.lean ====
/-
The loss as plain mathematics.

Both programs compute the same real number at exact arithmetic: a row of the input divided by its length, its scores
against the stored rows, and the cross entropy of those scores at the row's target. This file states that number over the
reals and the facts that bring each program's extended-real expressions to it.
-/
module

public import Idealize.ShloMosaic.PureOps.Ideal.Laws
public import Idealize.ShloMosaic.Lib.IdealHost

@[expose] public section
noncomputable section

namespace Cert.ScLoss

open Idealize.ShloMosaic
open Finset

/-- The temperature as the literal holds it. -/
def temp : ℝ := 13421773/268435456

theorem temp_pos : 0 < temp := by unfold temp; norm_num

/-- The factor the kernel multiplies a row by: the temperature's inverse in base two. -/
def scale : ℝ := (Real.log 2)⁻¹ * temp⁻¹

/-- The floor under a row's length. -/
def floorLen : ℝ := 9223372 * (2 : ℝ) ^ (-63 : ℤ)

theorem floorLen_pos : 0 < floorLen := by unfold floorLen; positivity

theorem floor_word : Ideal.ofBits .f32 0x2B8CBCCC#32 = (floorLen : EReal) := by
  unfold floorLen
  simp [Ideal.ofBits, Ideal.ieee, -EReal.coe_mul]

theorem temp_word : Ideal.ofBits .f32 0x3D4CCCCD#32 = (temp : EReal) := by
  unfold temp
  simp [Ideal.ofBits, Ideal.ieee, -EReal.coe_mul]
  norm_num

theorem count_word : Ideal.ofBits .f32 0x44800000#32 = ((1024 : ℝ) : EReal) := by
  simp [Ideal.ofBits, Ideal.ieee, -EReal.coe_mul]
  norm_num

/-- A finite sum of reals, summed in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### A row divided by its length -/

/-- A row's length, held above the floor. -/
def len (y : Fin 64 → EReal) : EReal := max (Ideal.sqrt (∑ k, y k * y k)) (Ideal.ofBits .f32 0x2B8CBCCC#32)

/-- A row divided by its length, as reals. -/
def unit (y : Fin 64 → EReal) (c : Fin 64) : ℝ := (Ideal.div (y c) (len y)).toReal

theorem sq_nonneg_ereal (a : EReal) : 0 ≤ a * a := by
  induction a using EReal.rec with
  | bot => simp
  | top => simp
  | coe a => rw [← EReal.coe_mul]; exact_mod_cast mul_self_nonneg a

theorem len_pos (y : Fin 64 → EReal) : 0 < len y := by
  refine lt_of_lt_of_le ?_ (le_max_right _ _)
  rw [floor_word]
  exact_mod_cast floorLen_pos

theorem len_top {y : Fin 64 → EReal} {c : Fin 64} (h : y c * y c = ⊤) : len y = ⊤ := by
  have hs : ∑ k, y k * y k = ⊤ := by
    refine top_le_iff.mp ?_
    rw [← h]
    exact Finset.single_le_sum (f := fun k => y k * y k) (fun i _ => sq_nonneg_ereal (y i)) (Finset.mem_univ c)
  unfold len
  rw [hs, show Ideal.sqrt (⊤ : EReal) = ⊤ from rfl]
  exact max_eq_left le_top

/-- The quotient is always a real: a row with an infinite entry has infinite length, and the quotient is zero. -/
theorem unit_eq (y : Fin 64 → EReal) (c : Fin 64) : Ideal.div (y c) (len y) = (unit y c : EReal) := by
  have hpos := len_pos y
  have hd : Ideal.div (y c) (len y) = y c * (len y)⁻¹ := by
    unfold Ideal.div
    rw [if_neg hpos.ne']
  unfold unit
  rw [hd]
  by_cases ht : len y = ⊤
  · rw [ht]; simp
  · have h1 : y c ≠ ⊤ := fun h => ht (len_top (c := c) (by rw [h]; simp))
    have h2 : y c ≠ ⊥ := fun h => ht (len_top (c := c) (by rw [h]; simp))
    have h3 : len y ≠ ⊥ := fun h => by rw [h] at hpos; simp at hpos
    rw [← EReal.coe_toReal h1 h2, ← EReal.coe_toReal ht h3, ← EReal.coe_inv, ← EReal.coe_mul, EReal.toReal_coe]

/-! ### Scores and the loss -/

variable (u : Fin 1024 → Fin 64 → ℝ) (f : Fin 100000 → Fin 64 → ℝ) (tgt : Fin 1024 → Fin 100000)

/-- The score of row `r` against the stored row `n`. -/
def score (r : Fin 1024) (n : Fin 100000) : ℝ := (∑ c, u r c * f n c) / temp

/-- The sum of a row's exponentials. -/
def total (r : Fin 1024) : ℝ := ∑ n, Real.exp (score u f r n)

/-- The mean cross entropy. -/
def loss : ℝ := (∑ r, (Real.log (total u f r) - score u f r (tgt r))) / 1024

theorem total_pos (r : Fin 1024) : 0 < total u f r :=
  Finset.sum_pos (fun _ _ => Real.exp_pos _) ⟨⟨0, by norm_num⟩, Finset.mem_univ _⟩

/-! ### The kernel's expressions -/

theorem log_two_pos : 0 < Real.log 2 := Real.log_pos (by norm_num)

/-- The kernel's product of a scaled row and a stored row: the score, in base two. -/
theorem scaled_product (v g : Fin 64 → ℝ) :
    ∑ c, ((v c : EReal) * ((scale : ℝ) : EReal)) * ((g c : ℝ) : EReal)
      = (((∑ c, v c * g c) / temp * (Real.log 2)⁻¹ : ℝ) : EReal) := by
  have h : ∀ c, ((v c : EReal) * ((scale : ℝ) : EReal)) * ((g c : ℝ) : EReal)
      = ((v c * scale * g c : ℝ) : EReal) := fun c => by rw [EReal.coe_mul, EReal.coe_mul]
  rw [Finset.sum_congr rfl (fun c _ => h c), sum_coe]
  congr 1
  unfold scale
  rw [div_eq_mul_inv, Finset.sum_mul, Finset.sum_mul]
  exact Finset.sum_congr rfl fun c _ => by ring

/-- Two to the score in base two is the score's exponential. -/
theorem exp2_product (r : Fin 1024) (n : Fin 100000) :
    Ideal.exp2 (∑ c, ((u r c : EReal) * ((scale : ℝ) : EReal)) * ((f n c : ℝ) : EReal))
      = ((Real.exp (score u f r n) : ℝ) : EReal) := by
  rw [scaled_product, Ideal.exp2_coe]
  congr 1
  show (2 : ℝ) ^ (score u f r n * (Real.log 2)⁻¹) = _
  rw [Real.rpow_def_of_pos (by norm_num)]
  congr 1
  have := log_two_pos.ne'
  field_simp

/-- A row's part of the loss, as the kernel writes it. -/
theorem kernel_row (r : Fin 1024) :
    Ideal.log ((total u f r : ℝ) : EReal) * (((Real.log 2)⁻¹ : ℝ) : EReal) * ((Real.log 2 : ℝ) : EReal)
        - (∑ c, ((u r c : EReal) * ((scale : ℝ) : EReal)) * ((f (tgt r) c : ℝ) : EReal)) * ((Real.log 2 : ℝ) : EReal)
      = ((Real.log (total u f r) - score u f r (tgt r) : ℝ) : EReal) := by
  have h2 := log_two_pos.ne'
  rw [scaled_product, Ideal.log_coe, if_neg (not_le.mpr (total_pos u f r)), ← EReal.coe_mul, ← EReal.coe_mul,
    ← EReal.coe_mul, ← EReal.coe_sub]
  congr 1
  unfold score
  field_simp

/-- The mean, as both programs write it. -/
theorem mean_eq (h : Fin 1024 → EReal)
    (hh : ∀ r, h r = ((Real.log (total u f r) - score u f r (tgt r) : ℝ) : EReal)) :
    Ideal.div (∑ r, h r) (Ideal.ofBits .f32 0x44800000#32) = ((loss u f tgt : ℝ) : EReal) := by
  rw [Finset.sum_congr rfl (fun r _ => hh r), sum_coe, count_word, Ideal.div_coe (by norm_num), ← EReal.coe_mul]
  congr 1
  unfold loss
  ring

/-! ### The reference's expressions -/

theorem ref_score (r : Fin 1024) (n : Fin 100000) :
    Ideal.div (∑ c, (u r c : EReal) * ((f n c : ℝ) : EReal)) (Ideal.ofBits .f32 0x3D4CCCCD#32)
      = ((score u f r n : ℝ) : EReal) := by
  have h : ∀ c, (u r c : EReal) * ((f n c : ℝ) : EReal) = ((u r c * f n c : ℝ) : EReal) := fun c => by
    rw [EReal.coe_mul]
  rw [Finset.sum_congr rfl (fun c _ => h c), sum_coe, temp_word, Ideal.div_coe temp_pos.ne', ← EReal.coe_mul]
  congr 1
  unfold score
  ring

/-- The largest of a row's scores is a real. -/
theorem max_real (z : Fin 100000 → ℝ) :
    ∃ b : ℝ, (Finset.univ : Finset (Fin 100000)).fold max ⊥ (fun n => ((z n : ℝ) : EReal)) = (b : EReal) := by
  have h1 : (Finset.univ : Finset (Fin 100000)).fold max ⊥ (fun n => ((z n : ℝ) : EReal)) < ⊤ :=
    (Finset.fold_max_lt _).mpr ⟨bot_lt_top, fun n _ => EReal.coe_lt_top _⟩
  have h2 : ((z ⟨0, by norm_num⟩ : ℝ) : EReal) ≤
      (Finset.univ : Finset (Fin 100000)).fold max ⊥ (fun n => ((z n : ℝ) : EReal)) :=
    (Finset.le_fold_max _).mpr (Or.inr ⟨⟨0, by norm_num⟩, Finset.mem_univ _, le_rfl⟩)
  refine ⟨_, (EReal.coe_toReal h1.ne ?_).symm⟩
  intro h
  rw [h] at h2
  exact absurd (le_bot_iff.mp h2) (EReal.coe_ne_bot _)

/-- A row's part of the loss, as the reference writes it: the shift by any real cancels. -/
theorem ref_row (b : ℝ) (r : Fin 1024) :
    (((score u f r (tgt r) : ℝ) : EReal) - ((b : ℝ) : EReal))
        - Ideal.log (∑ n, Ideal.exp (((score u f r n : ℝ) : EReal) - ((b : ℝ) : EReal)))
      = ((-(Real.log (total u f r) - score u f r (tgt r)) : ℝ) : EReal) := by
  have hn : ∀ n, Ideal.exp (((score u f r n : ℝ) : EReal) - ((b : ℝ) : EReal))
      = ((Real.exp (score u f r n) * Real.exp (-b) : ℝ) : EReal) := fun n => by
    rw [← EReal.coe_sub, Ideal.exp_coe, sub_eq_add_neg, Real.exp_add]
  have ht : ∑ n, Real.exp (score u f r n) * Real.exp (-b) = total u f r * Real.exp (-b) := by
    unfold total; rw [Finset.sum_mul]
  have hp : 0 < total u f r * Real.exp (-b) := mul_pos (total_pos u f r) (Real.exp_pos _)
  rw [Finset.sum_congr rfl (fun n _ => hn n), sum_coe, ht, Ideal.log_coe, if_neg (not_le.mpr hp),
    Real.log_mul (total_pos u f r).ne' (Real.exp_pos _).ne', Real.log_exp, ← EReal.coe_sub, ← EReal.coe_sub]
  refine congrArg (fun a : ℝ => (a : EReal)) ?_
  ring

end Cert.ScLoss
-- ==== Proof.Payloads.lean ====
/-
  What the kernel bodies compute at exact arithmetic, entry by entry.
-/
module

public import proofs.«01_k».proof.Proof.Bodies
public import proofs.«01_k».proof.Proof.Spec
public import Idealize.ShloMosaic.Lib.MatmulPlain
public import Idealize.ShloMosaic.Lib.ValueIdxRank1
public import Idealize.ShloMosaic.Lib.Pipeline.Value

@[expose] public section

noncomputable section

namespace Cert.ScLoss

open Cert.KernelIdeal Cert.KernelIdeal.Gen
open Idealize.ShloMosaic Idealize.ShloMosaic.ValueIdx

/-! ### The named constants -/

theorem named_scale : Named.named (F := Ideal) (φ := .f32) κ "log2e_over_temp" 0x41E6D4CA#32 = ((scale : ℝ) : EReal) :=
  IdealRules.named_const.ideal_named_scalar (φ := .f32) κ "log2e_over_temp" _ _ rfl
theorem named_ln2 : Named.named (F := Ideal) (φ := .f32) κ "ln2" 0x3F317218#32 = ((Real.log 2 : ℝ) : EReal) :=
  IdealRules.named_const.ideal_named_scalar (φ := .f32) κ "ln2" _ _ rfl
theorem named_inv_ln2 : Named.named (F := Ideal) (φ := .f32) κ "inv_ln2" 0x3FB8AA3B#32 = (((Real.log 2)⁻¹ : ℝ) : EReal) :=
  IdealRules.named_const.ideal_named_scalar (φ := .f32) κ "inv_ln2" _ _ rfl

/-! ### Rows and columns -/

theorem row64 (x : FVec Ideal S1024x64 .f32) (h : S1024x64.Reduces [1] S1024) (hφ : FKind.Formats .f32) (hacc : 0x00000000#32 = FKind.add.neutral .f32 hφ) (r : Fin 1024) :
    multiReduction .add [1] S1024 x 0x00000000#32 h hφ hacc (ix1 r) = ∑ k : Fin 64, x (ix2 r k) := by
  refine (Ideal.multiReduction_add_single x _ h hφ hacc _).trans ?_
  refine Finset.sum_congr rfl fun k _ => congrArg x ?_
  funext a; apply Fin.ext
  match a with
  | ⟨0, _⟩ => rfl
  | ⟨1, _⟩ => rfl

theorem row128 (x : FVec Ideal S1024x128 .f32) (h : S1024x128.Reduces [1] S1024) (hφ : FKind.Formats .f32) (hacc : 0x00000000#32 = FKind.add.neutral .f32 hφ) (r : Fin 1024) :
    multiReduction .add [1] S1024 x 0x00000000#32 h hφ hacc (ix1 r) = ∑ k : Fin 128, x (ix2 r k) := by
  refine (Ideal.multiReduction_add_single x _ h hφ hacc _).trans ?_
  refine Finset.sum_congr rfl fun k _ => congrArg x ?_
  funext a; apply Fin.ext
  match a with
  | ⟨0, _⟩ => rfl
  | ⟨1, _⟩ => rfl

theorem row1024 (x : FVec Ideal S1x1024 .f32) (h : S1x1024.Reduces [1] S1) (hφ : FKind.Formats .f32) (hacc : 0x00000000#32 = FKind.add.neutral .f32 hφ) :
    multiReduction .add [1] S1 x 0x00000000#32 h hφ hacc (ix1 0) = ∑ k : Fin 1024, x (ix2 0 k) := by
  refine (Ideal.multiReduction_add_single x _ h hφ hacc _).trans ?_
  refine Finset.sum_congr rfl fun k _ => congrArg x ?_
  funext a; apply Fin.ext
  match a with
  | ⟨0, _⟩ => rfl
  | ⟨1, _⟩ => rfl

theorem column_at {α : Type} (v : S1024.Idx → α) (r : Fin 1024) : shapeCast S1024x1 v shapeCasts_S1024_S1024x1 (ix2 r 0) = v (ix1 r) :=
  shapeCast_apply _ _ _ _ (by rw [Shape.rowMajor_val_one, Shape.rowMajor_val_two]; show r.val = r.val * 1 + 0; omega)

theorem spread_at {α : Type} (v : S1024x1.Idx → α) (r : Fin 1024) (c : Fin 64) :
    broadcastTo S1024x64 v broadcasts_S1024x1_S1024x64 (ix2 r c) = v (ix2 r 0) :=
  broadcastTo_apply _ _ _ (ix2 r 0) (fun a => by match a with | ⟨0, _⟩ => rfl | ⟨1, _⟩ => rfl)

theorem line_at {α : Type} (v : S1024.Idx → α) (r : Fin 1024) : shapeCast S1x1024 v shapeCasts_S1024_S1x1024 (ix2 0 r) = v (ix1 r) :=
  shapeCast_apply _ _ _ _ (by rw [Shape.rowMajor_val_one, Shape.rowMajor_val_two]; show r.val = 0 * 1024 + r.val; omega)

theorem point_at {α : Type} (v : S1.Idx → α) : shapeCast S1x1 v shapeCasts_S1_S1x1 (ix2 0 0) = v (ix1 0) :=
  shapeCast_apply _ _ _ _ (by rw [Shape.rowMajor_val_one, Shape.rowMajor_val_two]; rfl)

theorem sqrt_at {s : Shape} (v : FVec Ideal s .f32) (j : s.Idx) : sqrt v j = Ideal.sqrt (v j) := rfl
theorem log_at {s : Shape} (v : FVec Ideal s .f32) (j : s.Idx) : log v j = Ideal.log (v j) := rfl
theorem exp2_at {s : Shape} (v : FVec Ideal s .bf16) (j : s.Idx) : exp2 v j = Ideal.exp2 (v j) := rfl

/-! ### The normalising body -/

theorem norm_at (x : Vec Ideal S1024x64 .f32) (r : Fin 1024) (c : Fin 64) :
    k0_pay1 x (ix2 r c) = (unit (fun k => x (ix2 r k)) c : EReal) * ((scale : ℝ) : EReal) := by
  unfold k0_pay1
  simp only []
  rw [truncf_apply, mulf_apply, divf_apply, broadcast_apply, named_scale, spread_at, maximumf_apply, sqrt_at, column_at, broadcast_apply, ← unit_eq]
  erw [row64]
  rfl

/-! ### The summing body -/

theorem exps_at (x : Vec Ideal S1024x64 .bf16) (f : Vec Ideal S4000x64 .f32) (r : Fin 1024) (n : Fin 4000) :
    k1_pay6 x f (ix2 r n) = Ideal.exp2 (∑ c : Fin 64, x (ix2 r c) * f (ix2 n c)) := by
  unfold k1_pay6
  rw [exp2_at, truncf_apply, shapeCast_self]
  refine congrArg Ideal.exp2 ?_
  refine (Ideal.matmul_transposedRhs_apply (M := 1024) (K := 64) (N := 4000) none x (truncf .bf16 f bitsLt_bf16_f32 : FVec Ideal S4000x64 .bf16) _ r n).trans ?_
  rw [constant_apply, Ideal.ofBits_zero_f32, zero_add]
  rfl

/-- Lane `l` of block `i` of a row of 4000, the row continued by zeros. -/
def lane (E : Fin 4000 → EReal) (l i : ℕ) : EReal := if h : 128 * i + l < 4000 then E ⟨128 * i + l, h⟩ else 0

theorem lane_lt (E : Fin 4000 → EReal) {l i : ℕ} (h : 128 * i + l < 4000) : lane E l i = E ⟨128 * i + l, h⟩ := dif_pos h

section
variable (x : Vec Ideal S1024x64 .bf16) (f : Vec Ideal S4000x64 .f32) (r : Fin 1024) (l : Fin 128)

/-- The row of exponentials. -/
def expsRow (n : Fin 4000) : EReal := k1_pay6 x f (ix2 r n)

theorem slice_at (i : ℕ) (hi : i < 31) {o : Fin 2 → ℕ} (ho : o = ![0, 128 * i]) (h : S1024x4000.Slices o S1024x128) :
    extractStridedSlice S1024x128 o (k1_pay6 x f) h (ix2 r l) = lane (expsRow x f r) l i := by
  subst ho
  have hl := l.isLt
  rw [lane_lt (h := by omega)]
  refine extractStridedSlice_apply _ _ _ _ (ix2 r (⟨128 * i + l, by omega⟩ : Fin 4000)) (fun a => ?_)
  match a with
  | ⟨0, _⟩ => show r.val = 0 + r.val; omega
  | ⟨1, _⟩ => rfl

theorem block10 : k1_pay7 x f (ix2 r l) = lane (expsRow x f r) l 10 := slice_at x f r l 10 (by norm_num) rfl slices_S1024x4000_o0_1280_S1024x128
theorem block11 : k1_pay8 x f (ix2 r l) = lane (expsRow x f r) l 11 := slice_at x f r l 11 (by norm_num) rfl slices_S1024x4000_o0_1408_S1024x128
theorem block12 : k1_pay9 x f (ix2 r l) = lane (expsRow x f r) l 12 := slice_at x f r l 12 (by norm_num) rfl slices_S1024x4000_o0_1536_S1024x128
theorem block13 : k1_pay10 x f (ix2 r l) = lane (expsRow x f r) l 13 := slice_at x f r l 13 (by norm_num) rfl slices_S1024x4000_o0_1664_S1024x128
theorem block14 : k1_pay11 x f (ix2 r l) = lane (expsRow x f r) l 14 := slice_at x f r l 14 (by norm_num) rfl slices_S1024x4000_o0_1792_S1024x128
theorem block15 : k1_pay12 x f (ix2 r l) = lane (expsRow x f r) l 15 := slice_at x f r l 15 (by norm_num) rfl slices_S1024x4000_o0_1920_S1024x128
theorem block16 : k1_pay13 x f (ix2 r l) = lane (expsRow x f r) l 16 := slice_at x f r l 16 (by norm_num) rfl slices_S1024x4000_o0_2048_S1024x128
theorem block17 : k1_pay14 x f (ix2 r l) = lane (expsRow x f r) l 17 := slice_at x f r l 17 (by norm_num) rfl slices_S1024x4000_o0_2176_S1024x128
theorem block18 : k1_pay15 x f (ix2 r l) = lane (expsRow x f r) l 18 := slice_at x f r l 18 (by norm_num) rfl slices_S1024x4000_o0_2304_S1024x128
theorem block19 : k1_pay16 x f (ix2 r l) = lane (expsRow x f r) l 19 := slice_at x f r l 19 (by norm_num) rfl slices_S1024x4000_o0_2432_S1024x128
theorem block20 : k1_pay17 x f (ix2 r l) = lane (expsRow x f r) l 20 := slice_at x f r l 20 (by norm_num) rfl slices_S1024x4000_o0_2560_S1024x128
theorem block21 : k1_pay18 x f (ix2 r l) = lane (expsRow x f r) l 21 := slice_at x f r l 21 (by norm_num) rfl slices_S1024x4000_o0_2688_S1024x128
theorem block22 : k1_pay19 x f (ix2 r l) = lane (expsRow x f r) l 22 := slice_at x f r l 22 (by norm_num) rfl slices_S1024x4000_o0_2816_S1024x128
theorem block23 : k1_pay20 x f (ix2 r l) = lane (expsRow x f r) l 23 := slice_at x f r l 23 (by norm_num) rfl slices_S1024x4000_o0_2944_S1024x128
theorem block24 : k1_pay21 x f (ix2 r l) = lane (expsRow x f r) l 24 := slice_at x f r l 24 (by norm_num) rfl slices_S1024x4000_o0_3072_S1024x128
theorem block25 : k1_pay22 x f (ix2 r l) = lane (expsRow x f r) l 25 := slice_at x f r l 25 (by norm_num) rfl slices_S1024x4000_o0_3200_S1024x128
theorem block26 : k1_pay23 x f (ix2 r l) = lane (expsRow x f r) l 26 := slice_at x f r l 26 (by norm_num) rfl slices_S1024x4000_o0_3328_S1024x128
theorem block27 : k1_pay24 x f (ix2 r l) = lane (expsRow x f r) l 27 := slice_at x f r l 27 (by norm_num) rfl slices_S1024x4000_o0_3456_S1024x128
theorem block28 : k1_pay25 x f (ix2 r l) = lane (expsRow x f r) l 28 := slice_at x f r l 28 (by norm_num) rfl slices_S1024x4000_o0_3584_S1024x128
theorem block29 : k1_pay26 x f (ix2 r l) = lane (expsRow x f r) l 29 := slice_at x f r l 29 (by norm_num) rfl slices_S1024x4000_o0_3712_S1024x128
theorem block30 : k1_pay27 x f (ix2 r l) = lane (expsRow x f r) l 30 := slice_at x f r l 30 (by norm_num) rfl slices_S1024x4000_o0_3840_S1024x128
theorem block31 : k1_pay28 x f (ix2 r l) = lane (expsRow x f r) l 31 := by
  unfold k1_pay28
  by_cases hl : l.val < 32
  · rw [lane_lt (h := by omega)]
    refine (concatenate_pair_apply_left (t := S1024x128) (s₁ := S1024x32) (s₂ := S1024x96) _ _ _ _ _ rfl (ix2 r (⟨l.val, hl⟩ : Fin 32)) (fun b => ?_)).trans ?_
    · match b with
      | ⟨0, _⟩ => rfl
      | ⟨1, _⟩ => rfl
    refine extractStridedSlice_apply _ _ _ _ (ix2 r (⟨128 * 31 + l, by omega⟩ : Fin 4000)) (fun a => ?_)
    match a with
    | ⟨0, _⟩ => show r.val = 0 + r.val; omega
    | ⟨1, _⟩ => rfl
  · have hl' := l.isLt
    rw [show lane (expsRow x f r) l 31 = 0 from dif_neg (by omega)]
    refine (concatenate_pair_apply_right (t := S1024x128) (s₁ := S1024x32) (s₂ := S1024x96) _ _ _ _ _ rfl rfl (ix2 r (⟨l.val - 32, by omega⟩ : Fin 96)) (fun b => ?_) ?_).trans ?_
    · match b with
      | ⟨0, _⟩ => exact fun _ => rfl
      | ⟨1, _⟩ => exact fun h => absurd rfl h
    · show l.val - 32 + 32 = l.val
      omega
    · show Ideal.ofBits .bf16 0x0000#16 = 0
      simp [Ideal.ofBits, Ideal.ieee]

theorem pair0 : k1_pay29 x f (ix2 r l) = lane (expsRow x f r) l 0 + lane (expsRow x f r) l 1 :=
  congrArg₂ (· + ·) (slice_at x f r l 0 (by norm_num) rfl slices_S1024x4000_o0_0_S1024x128) (slice_at x f r l 1 (by norm_num) rfl slices_S1024x4000_o0_128_S1024x128)
theorem pair1 : k1_pay30 x f (ix2 r l) = lane (expsRow x f r) l 2 + lane (expsRow x f r) l 3 :=
  congrArg₂ (· + ·) (slice_at x f r l 2 (by norm_num) rfl slices_S1024x4000_o0_256_S1024x128) (slice_at x f r l 3 (by norm_num) rfl slices_S1024x4000_o0_384_S1024x128)
theorem pair2 : k1_pay31 x f (ix2 r l) = lane (expsRow x f r) l 4 + lane (expsRow x f r) l 5 :=
  congrArg₂ (· + ·) (slice_at x f r l 4 (by norm_num) rfl slices_S1024x4000_o0_512_S1024x128) (slice_at x f r l 5 (by norm_num) rfl slices_S1024x4000_o0_640_S1024x128)
theorem pair3 : k1_pay32 x f (ix2 r l) = lane (expsRow x f r) l 6 + lane (expsRow x f r) l 7 :=
  congrArg₂ (· + ·) (slice_at x f r l 6 (by norm_num) rfl slices_S1024x4000_o0_768_S1024x128) (slice_at x f r l 7 (by norm_num) rfl slices_S1024x4000_o0_896_S1024x128)
theorem pair4 : k1_pay33 x f (ix2 r l) = lane (expsRow x f r) l 8 + lane (expsRow x f r) l 9 :=
  congrArg₂ (· + ·) (slice_at x f r l 8 (by norm_num) rfl slices_S1024x4000_o0_1024_S1024x128) (slice_at x f r l 9 (by norm_num) rfl slices_S1024x4000_o0_1152_S1024x128)

/-- One lane of a chunk: the sum of that lane of the chunk's thirty-two blocks. -/
theorem chunk_at : chunkSum x f (ix2 r l) = ∑ i ∈ Finset.range 32, lane (expsRow x f r) l i := by
  have e : chunkSum x f (ix2 r l) = ((((k1_pay29 x f (ix2 r l) + k1_pay30 x f (ix2 r l)) + (k1_pay31 x f (ix2 r l) + k1_pay32 x f (ix2 r l))) + ((k1_pay33 x f (ix2 r l) + (k1_pay7 x f (ix2 r l) + k1_pay8 x f (ix2 r l))) + ((k1_pay9 x f (ix2 r l) + k1_pay10 x f (ix2 r l)) + (k1_pay11 x f (ix2 r l) + k1_pay12 x f (ix2 r l))))) + ((((k1_pay13 x f (ix2 r l) + k1_pay14 x f (ix2 r l)) + (k1_pay15 x f (ix2 r l) + k1_pay16 x f (ix2 r l))) + ((k1_pay17 x f (ix2 r l) + k1_pay18 x f (ix2 r l)) + (k1_pay19 x f (ix2 r l) + k1_pay20 x f (ix2 r l)))) + (((k1_pay21 x f (ix2 r l) + k1_pay22 x f (ix2 r l)) + (k1_pay23 x f (ix2 r l) + k1_pay24 x f (ix2 r l))) + ((k1_pay25 x f (ix2 r l) + k1_pay26 x f (ix2 r l)) + (k1_pay27 x f (ix2 r l) + k1_pay28 x f (ix2 r l)))))) := rfl
  rw [e, pair0, pair1, pair2, pair3, pair4, block10, block11, block12, block13, block14, block15, block16, block17, block18, block19, block20, block21, block22, block23, block24, block25, block26, block27, block28, block29, block30, block31]
  simp only [Finset.sum_range_succ, Finset.sum_range_zero]
  generalize lane (expsRow x f r) l = g
  abel

/-- All lanes of a chunk: the sum of the chunk's row of exponentials. -/
theorem chunk_total : ∑ l : Fin 128, chunkSum x f (ix2 r l) = ∑ n : Fin 4000, k1_pay6 x f (ix2 r n) := by
  have e1 : ∑ l : Fin 128, chunkSum x f (ix2 r l) = ∑ l : Fin 128, ∑ i : Fin 32, lane (expsRow x f r) l i :=
    Finset.sum_congr rfl fun l _ => (chunk_at x f r l).trans (Fin.sum_univ_eq_sum_range (fun i => lane (expsRow x f r) l i) 32).symm
  have e3 : ∑ i : Fin 32, ∑ l : Fin 128, lane (expsRow x f r) l i = ∑ p : Fin 32 × Fin 128, lane (expsRow x f r) p.2 p.1 :=
    (Fintype.sum_prod_type fun p : Fin 32 × Fin 128 => lane (expsRow x f r) p.2 p.1).symm
  rw [e1, Finset.sum_comm, e3]
  have e2 : ∑ p : Fin 32 × Fin 128, lane (expsRow x f r) p.2 p.1
      = ∑ n : Fin (32 * 128), (if h : n.val < 4000 then expsRow x f r ⟨n.val, h⟩ else 0) :=
    Fintype.sum_equiv finProdFinEquiv _ _ fun p => by
      have e : (finProdFinEquiv p).val = 128 * p.1.val + p.2.val := by rw [finProdFinEquiv_apply_val]; omega
      unfold lane
      simp only [e]
  rw [e2]
  rw [Fin.sum_univ_eq_sum_range (fun n => if h : n < 4000 then expsRow x f r ⟨n, h⟩ else 0) (32 * 128),
    ← Finset.sum_subset (Finset.range_subset_range.mpr (show 4000 ≤ 32 * 128 by norm_num)) (fun n _ hn => dif_neg (by simpa using hn)),
    ← Fin.sum_univ_eq_sum_range (fun n => if h : n < 4000 then expsRow x f r ⟨n, h⟩ else 0) 4000]
  exact Finset.sum_congr rfl fun n _ => dif_pos n.isLt
end

theorem next_at (v76 : FVec Ideal S1024x128 .f32) (v83 : Vec Ideal S1024x128 .f32) (i : S1024x128.Idx) :
    k1_pay4 v76 v83 i = v83 i + v76 i := by
  unfold k1_pay4
  rw [addf_apply, shapeCast_self]

/-! ### The packed table -/

theorem pack_lo (f : Vec Ideal S4000x64 .f32) (q : Fin 2000) (c : Fin 64) :
    k1_pay5 f (ix2 q (⟨c.val, by omega⟩ : Fin 128)) = f (ix2 (⟨q.val, by omega⟩ : Fin 4000) c) := by
  unfold k1_pay5
  refine (concatenate_pair_apply_left (t := S2000x128) (s₁ := S2000x64) (s₂ := S2000x64) _ _ _ _ _ rfl (ix2 q c) (fun b => ?_)).trans ?_
  · match b with
    | ⟨0, _⟩ => rfl
    | ⟨1, _⟩ => rfl
  refine extractStridedSlice_apply _ _ _ _ _ (fun a => ?_)
  match a with
  | ⟨0, _⟩ => show q.val = 0 + q.val; omega
  | ⟨1, _⟩ => show c.val = 0 + c.val; omega

theorem pack_hi (f : Vec Ideal S4000x64 .f32) (q : Fin 2000) (c : Fin 64) :
    k1_pay5 f (ix2 q (⟨64 + c.val, by omega⟩ : Fin 128)) = f (ix2 (⟨2000 + q.val, by omega⟩ : Fin 4000) c) := by
  unfold k1_pay5
  refine (concatenate_pair_apply_right (t := S2000x128) (s₁ := S2000x64) (s₂ := S2000x64) _ _ _ _ _ rfl rfl (ix2 q c) (fun b => ?_) ?_).trans ?_
  · match b with
    | ⟨0, _⟩ => exact fun _ => rfl
    | ⟨1, _⟩ => exact fun h => absurd rfl h
  · show c.val + 64 = 64 + c.val
    omega
  refine extractStridedSlice_apply _ _ _ _ _ (fun a => ?_)
  match a with
  | ⟨0, _⟩ => rfl
  | ⟨1, _⟩ => show c.val = 0 + c.val; omega

/-! ### The combining body -/

/-- A row's part of the loss as the combining body forms it. -/
def part (p : Vec Ideal S1024x64 .bf16) (g : Vec Ideal S1024x128 .f32) (k : Vec Ideal S1024x1 .f32) (s : Vec Ideal S1024x128 .f32) (r : Fin 1024) : EReal :=
  Ideal.log (∑ l : Fin 128, s (ix2 r l)) * (((Real.log 2)⁻¹ : ℝ) : EReal) * ((Real.log 2 : ℝ) : EReal)
    - (∑ c : Fin 64, p (ix2 r c) * (g (ix2 r (⟨c.val, by omega⟩ : Fin 128)) * k (ix2 r 0)
        + g (ix2 r (⟨64 + c.val, by omega⟩ : Fin 128)) * (Ideal.ofBits .f32 0x3F800000#32 - k (ix2 r 0)))) * ((Real.log 2 : ℝ) : EReal)

theorem combine_at (p : Vec Ideal S1024x64 .bf16) (g : Vec Ideal S1024x128 .f32) (k : Vec Ideal S1024x1 .f32) (s : Vec Ideal S1024x128 .f32) :
    k3_pay1 p g k s (ix2 0 0) = Ideal.div (∑ r : Fin 1024, part p g k s r) (Ideal.ofBits .f32 0x44800000#32) := by
  unfold k3_pay1
  simp only []
  rw [broadcast_apply]
  refine congrArg (fun a => Ideal.div a (Ideal.ofBits .f32 0x44800000#32)) ?_
  refine (point_at _).trans ?_
  erw [row1024]
  refine Finset.sum_congr rfl fun r _ => ?_
  rw [line_at, subf_apply, mulf_apply, mulf_apply, mulf_apply, broadcast_apply, broadcast_apply, named_ln2, named_inv_ln2, log_at]
  erw [row128, row64]
  unfold part
  simp only [shapeCast_self]
  refine congrArg (fun a => _ - a * _) (Finset.sum_congr rfl fun c _ => ?_)
  rw [mulf_apply, addf_apply, mulf_apply, mulf_apply, extf_apply, spread_at, spread_at, subf_apply, broadcast_apply]
  refine congrArg₂ (fun a b => p (ix2 r c) * (a * k (ix2 r 0) + b * (Ideal.ofBits .f32 0x3F800000#32 - k (ix2 r 0)))) ?_ ?_
  · refine extractStridedSlice_apply _ _ _ _ _ (fun a => ?_)
    match a with
    | ⟨0, _⟩ => show r.val = 0 + r.val; omega
    | ⟨1, _⟩ => show c.val = 0 + c.val; omega
  · refine extractStridedSlice_apply _ _ _ _ _ (fun a => ?_)
    match a with
    | ⟨0, _⟩ => show r.val = 0 + r.val; omega
    | ⟨1, _⟩ => rfl

end Cert.ScLoss

end
-- ==== Proof.Arrays.lean ====
/-
  The arrays the TensorCore regions leave, at exact arithmetic.
-/
module

public import proofs.«01_k».proof.Proof.Regions
public import proofs.«01_k».proof.Proof.Payloads

@[expose] public section

noncomputable section

namespace Cert.ScLoss

open Cert.KernelIdeal Cert.KernelIdeal.Gen
open Idealize.ShloMosaic Idealize.ShloMosaic.ValueIdx
open scoped Idealize.ShloMosaic.TcCoe

variable {F : FTy → Type} [FloatOps F] [Named F] (W : VV F) (c : Dev nD)

/-! ## Where the blocks lie -/

theorem emb0_1 (t : Fin cfg0.N) (j : S1024x64.Idx) : ((cfg0.win 1).blk t).view.emb j = j := by
  funext a; apply Fin.ext
  refine ((cfg0.win 1).rect_emb_val_of_index_zero t a ?_ j)
  fin_cases a <;> rfl
theorem emb1_2 (t : Fin cfg1.N) (j : S1024x128.Idx) : ((cfg1.win 2).blk t).view.emb j = j := by
  funext a; apply Fin.ext
  refine ((cfg1.win 2).rect_emb_val_of_index_zero t a ?_ j)
  fin_cases a <;> rfl
theorem emb3_4 (t : Fin cfg3.N) (j : S1x1.Idx) : ((cfg3.win 4).blk t).view.emb j = j := by
  funext a; apply Fin.ext
  refine ((cfg3.win 4).rect_emb_val_of_index_zero t a ?_ j)
  fin_cases a <;> rfl

theorem index1_1 : ∀ t : Fin cfg1.N, (cfg1.win 1).index t 0 = t.val ∧ (cfg1.win 1).index t 1 = 0 :=
  (by decide : ∀ t : Fin grid1.N, win1_1.index t 0 = t.val ∧ win1_1.index t 1 = 0)
theorem index1_3 : ∀ t : Fin cfg1.N, (cfg1.win 3).index t 0 = t.val ∧ (cfg1.win 3).index t 1 = 0 :=
  (by decide : ∀ t : Fin grid1.N, win1_3.index t 0 = t.val ∧ win1_3.index t 1 = 0)

theorem pt1 (t : Fin cfg1.N) : t.val < 25 := N_1 ▸ t.isLt

theorem emb1_1 (t : Fin cfg1.N) (a : Fin 4000) (b : Fin 64) :
    ((cfg1.win 1).blk t).view.emb (ix2 a b) = ix2 (⟨4000 * t.val + a.val, by have := pt1 t; omega⟩ : Fin 100000) b := by
  funext d; apply Fin.ext
  refine ((cfg1.win 1).rect_emb_val t (ix2 a b) d rfl).trans ?_
  match d with
  | ⟨0, _⟩ => show (cfg1.win 1).index t 0 * 4000 + a.val = 4000 * t.val + a.val
              rw [(index1_1 t).1]; omega
  | ⟨1, _⟩ => show (cfg1.win 1).index t 1 * 64 + b.val = b.val
              rw [(index1_1 t).2]; omega

theorem emb1_3 (t : Fin cfg1.N) (a : Fin 2000) (b : Fin 128) :
    ((cfg1.win 3).blk t).view.emb (ix2 a b) = ix2 (⟨2000 * t.val + a.val, by have := pt1 t; omega⟩ : Fin 50000) b := by
  funext d; apply Fin.ext
  refine ((cfg1.win 3).rect_emb_val t (ix2 a b) d rfl).trans ?_
  match d with
  | ⟨0, _⟩ => show (cfg1.win 3).index t 0 * 2000 + a.val = 2000 * t.val + a.val
              rw [(index1_3 t).1]; omega
  | ⟨1, _⟩ => show (cfg1.win 3).index t 1 * 128 + b.val = b.val
              rw [(index1_3 t).2]; omega

/-! ## What they hold at the end -/

theorem norm_array : (dat0 W c).arrAt 1 cfg0.N = k0_pay1 (W c main_arg0 : Vec F S1024x64 .f32) :=
  (dat0 W c).arrAt_eq_of_cover 1 (k0_pay1 (W c main_arg0 : Vec F S1024x64 .f32))
    (fun t _ => by
      funext j
      show k0_pay1 (W c main_arg0 : Vec F S1024x64 .f32) j = k0_pay1 (W c main_arg0 : Vec F S1024x64 .f32) (((cfg0.win 1).blk t).view.emb j)
      rw [emb0_1])
    (fun i => ⟨⟨0, by rw [show cfg0.N = 1 from N_0]; decide⟩, flush0_1 _, by
      have h := ((cfg0.win 1).blk (⟨0, by rw [show cfg0.N = 1 from N_0]; decide⟩ : Fin cfg0.N)).view.emb_mem_set i
      rwa [emb0_1] at h⟩)

theorem sums_array : (dat1 W c).arrAt 2 cfg1.N = accN W c 24 :=
  (dat1 W c).arrAt_eq_of_cover 2 (accN W c 24)
    (fun t ht => by
      have h24 : t.val = 24 := by have := (flush1_2 t).mp ht; have := pt1 t; omega
      funext j
      show accN W c t.val j = accN W c 24 (((cfg1.win 2).blk t).view.emb j)
      rw [emb1_2, h24])
    (fun i => ⟨⟨24, by rw [show cfg1.N = 25 from N_1]; decide⟩, (flush1_2 _).mpr rfl, by
      have h := ((cfg1.win 2).blk (⟨24, by rw [show cfg1.N = 25 from N_1]; decide⟩ : Fin cfg1.N)).view.emb_mem_set i
      rwa [emb1_2] at h⟩)

theorem loss_array : (dat3 W c).arrAt 4 cfg3.N
    = k3_pay1 (W c main_v0 : Vec F S1024x64 .bf16) (W c main_v13 : Vec F S1024x128 .f32) (W c main_v11 : Vec F S1024x1 .f32) (W c main_v1_0 : Vec F S1024x128 .f32) :=
  (dat3 W c).arrAt_eq_of_cover 4 (k3_pay1 (W c main_v0 : Vec F S1024x64 .bf16) (W c main_v13 : Vec F S1024x128 .f32) (W c main_v11 : Vec F S1024x1 .f32) (W c main_v1_0 : Vec F S1024x128 .f32))
    (fun t _ => by
      funext j
      show k3_pay1 (W c main_v0 : Vec F S1024x64 .bf16) (W c main_v13 : Vec F S1024x128 .f32) (W c main_v11 : Vec F S1024x1 .f32) (W c main_v1_0 : Vec F S1024x128 .f32) j
        = k3_pay1 (W c main_v0 : Vec F S1024x64 .bf16) (W c main_v13 : Vec F S1024x128 .f32) (W c main_v11 : Vec F S1024x1 .f32) (W c main_v1_0 : Vec F S1024x128 .f32)
          (((cfg3.win 4).blk t).view.emb j)
      rw [emb3_4])
    (fun i => ⟨⟨0, by rw [show cfg3.N = 1 from N_3]; decide⟩, flush3_4 _, by
      have h := ((cfg3.win 4).blk (⟨0, by rw [show cfg3.N = 1 from N_3]; decide⟩ : Fin cfg3.N)).view.emb_mem_set i
      rwa [emb3_4] at h⟩)

/-- The packed table: row `q` of block `t` is row `2000 t + q`. -/
def packed (i : S50000x128.Idx) : F .f32 :=
  k1_pay5 (fBlkN W c ((i 0).val / 2000)) (ix2 (⟨(i 0).val % 2000, Nat.mod_lt _ (by norm_num)⟩ : Fin 2000) (i 1))

theorem packed_at (t : ℕ) (a : Fin 2000) (b : Fin 128) (h : 2000 * t + a.val < 50000) :
    packed W c (ix2 (⟨2000 * t + a.val, h⟩ : Fin 50000) b) = k1_pay5 (fBlkN W c t) (ix2 a b) := by
  have ha := a.isLt
  have e1 : (2000 * t + a.val) / 2000 = t := by omega
  have e2 : (⟨(2000 * t + a.val) % 2000, Nat.mod_lt _ (by norm_num)⟩ : Fin 2000) = a := Fin.ext (by show (2000 * t + a.val) % 2000 = a.val; omega)
  show k1_pay5 (fBlkN W c ((2000 * t + a.val) / 2000)) (ix2 (⟨(2000 * t + a.val) % 2000, Nat.mod_lt _ (by norm_num)⟩ : Fin 2000) b) = _
  rw [e1, e2]

theorem table_array : (dat1 W c).arrAt 3 cfg1.N = packed W c :=
  (dat1 W c).arrAt_eq_of_cover 3 (packed W c)
    (fun t _ => by
      funext j
      obtain ⟨a, b, rfl⟩ : ∃ (a : Fin 2000) (b : Fin 128), j = ix2 a b := ⟨j 0, j 1, eq_ix2 j⟩
      show k1_pay5 (fBlk W c t) (ix2 a b) = packed W c (((cfg1.win 3).blk t).view.emb (ix2 a b))
      rw [emb1_3, packed_at, fBlkN_val])
    (fun i => by
      obtain ⟨a, b, rfl⟩ : ∃ (a : Fin 50000) (b : Fin 128), i = ix2 a b := ⟨i 0, i 1, eq_ix2 i⟩
      have ha := a.isLt
      have ht : a.val / 2000 < cfg1.N := by rw [show cfg1.N = 25 from N_1]; omega
      refine ⟨⟨a.val / 2000, ht⟩, flush1_3 _, ?_⟩
      have h := ((cfg1.win 3).blk (⟨a.val / 2000, ht⟩ : Fin cfg1.N)).view.emb_mem_set (ix2 (⟨a.val % 2000, Nat.mod_lt _ (by norm_num)⟩ : Fin 2000) b)
      rw [emb1_3] at h
      have e : (⟨2000 * (a.val / 2000) + a.val % 2000, by omega⟩ : Fin 50000) = a := Fin.ext (by show 2000 * (a.val / 2000) + a.val % 2000 = a.val; omega)
      rwa [e] at h)

theorem blk_at (t : Fin cfg1.N) (a : Fin 4000) (b : Fin 64) :
    fBlk W c t (ix2 a b) = (W c main_arg4 : Vec F S100000x64 .f32) (ix2 (⟨4000 * t.val + a.val, by have := pt1 t; omega⟩ : Fin 100000) b) := by
  have h := emb1_1 t a b
  unfold fBlk
  exact congrArg (W c main_arg4 : Vec F S100000x64 .f32) h

/-- A block of the features, entry by entry. -/
theorem block_at (t : ℕ) (ht : t < 25) (a : Fin 4000) (b : Fin 64) :
    fBlkN W c t (ix2 a b) = (W c main_arg4 : Vec F S100000x64 .f32) (ix2 (⟨4000 * t + a.val, by omega⟩ : Fin 100000) b) :=
  (congrFun (fBlkN_val W c ⟨t, by rw [show cfg1.N = 25 from N_1]; exact ht⟩) (ix2 a b)).trans (blk_at W c _ a b)

end Cert.ScLoss

end
-- ==== Proof.KernelValue.lean ====
/-
  The kernel's result at exact arithmetic: the mean cross entropy of `Spec`, from arguments whose stored rows are real
  and whose targets name rows of the table.
-/
module

public import proofs.«01_k».proof.Proof.Arrays
public import proofs.«01_k».proof.Proof.Keep

@[expose] public section

noncomputable section

namespace Cert.ScLoss

open Cert.KernelIdeal Cert.KernelIdeal.Gen
open Idealize.ShloMosaic Idealize.ShloMosaic.ValueIdx
open Idealize.ShloMosaic.StableHlo (after)
open scoped Idealize.ShloMosaic.TcCoe

/-! ## The running sum -/

section
variable (W : VV Ideal) (c : Dev nD)

theorem acc_at (r : Fin 1024) (l : Fin 128) : ∀ n : ℕ,
    accN W c n (ix2 r l) = ∑ t ∈ Finset.range (n + 1), chunkSum (W c main_v0) (fBlkN W c t) (ix2 r l)
  | 0 => by rw [Finset.sum_range_one]; rfl
  | n + 1 => by
    rw [Finset.sum_range_succ, ← acc_at r l n]
    exact next_at _ _ _

/-- A row of the input divided by its length. -/
def rowsOf (x : Vec Ideal S1024x64 .f32) : Fin 1024 → Fin 64 → ℝ := fun r => unit (fun k => x (ix2 r k))

variable (x : Vec Ideal S1024x64 .f32) (fr : Fin 100000 → Fin 64 → ℝ)
  (hx : (W c main_v0 : Vec Ideal S1024x64 .bf16) = k0_pay1 x)
  (hf : ∀ n b, (W c main_arg4 : Vec Ideal S100000x64 .f32) (ix2 n b) = ((fr n b : ℝ) : EReal))

include hx hf in
theorem sums_at (r : Fin 1024) : ∑ l : Fin 128, accN W c 24 (ix2 r l) = ((total (rowsOf x) fr r : ℝ) : EReal) := by
  have e1 : ∑ l : Fin 128, accN W c 24 (ix2 r l)
      = ∑ l : Fin 128, ∑ t ∈ Finset.range 25, chunkSum (W c main_v0) (fBlkN W c t) (ix2 r l) :=
    Finset.sum_congr rfl fun l _ => acc_at W c r l 24
  rw [e1, Finset.sum_comm]
  have e2 : ∀ t : Fin 25, ∑ l : Fin 128, chunkSum (W c main_v0) (fBlkN W c t.val) (ix2 r l)
      = ∑ n : Fin 4000, ((Real.exp (score (rowsOf x) fr r ⟨4000 * t.val + n.val, by omega⟩) : ℝ) : EReal) := fun t => by
    rw [chunk_total]
    refine Finset.sum_congr rfl fun n _ => ?_
    rw [exps_at, ← exp2_product]
    refine congrArg Ideal.exp2 (Finset.sum_congr rfl fun b _ => ?_)
    rw [hx, norm_at, block_at W c t.val t.isLt, hf]
    rfl
  rw [← Fin.sum_univ_eq_sum_range (fun t => ∑ l : Fin 128, chunkSum (W c main_v0) (fBlkN W c t) (ix2 r l)) 25, Finset.sum_congr rfl fun t _ => e2 t]
  have e3 : ∑ t : Fin 25, ∑ n : Fin 4000, ((Real.exp (score (rowsOf x) fr r ⟨4000 * t.val + n.val, by omega⟩) : ℝ) : EReal)
      = ∑ p : Fin 25 × Fin 4000, ((Real.exp (score (rowsOf x) fr r ⟨4000 * p.1.val + p.2.val, by omega⟩) : ℝ) : EReal) :=
    (Fintype.sum_prod_type fun p : Fin 25 × Fin 4000 => ((Real.exp (score (rowsOf x) fr r ⟨4000 * p.1.val + p.2.val, by omega⟩) : ℝ) : EReal)).symm
  have e4 : ∑ p : Fin 25 × Fin 4000, ((Real.exp (score (rowsOf x) fr r ⟨4000 * p.1.val + p.2.val, by omega⟩) : ℝ) : EReal)
      = ∑ n : Fin (25 * 4000), ((Real.exp (score (rowsOf x) fr r ⟨n.val, by have := n.isLt; omega⟩) : ℝ) : EReal) :=
    Fintype.sum_equiv finProdFinEquiv _ _ fun p => by
      have e : (⟨4000 * p.1.val + p.2.val, by omega⟩ : Fin 100000) = ⟨(finProdFinEquiv p).val, by have := (finProdFinEquiv p).isLt; omega⟩ :=
        Fin.ext (by rw [finProdFinEquiv_apply_val]; show 4000 * p.1.val + p.2.val = p.2.val + 4000 * p.1.val; omega)
      rw [e]
  rw [e3, e4]
  unfold total
  rw [← sum_coe]
end

/-! ## The row picked -/

theorem rowAt_lt (w : ℕ) (h : w < 50000) (l : Fin 128) : rowAt w l = ix2 (⟨w, h⟩ : Fin 50000) l := by
  funext a; apply Fin.ext
  match a with
  | ⟨0, _⟩ => show (if w < 50000 then w else 0) = w
              rw [if_pos h]
  | ⟨1, _⟩ => rfl

theorem uitofp_at (b : BitVec 1) : (FloatOps.uitofp .f32 b : Ideal .f32) = (((b.toNat : ℕ) : ℝ) : EReal) := rfl

theorem one_word : Ideal.ofBits .f32 0x3F800000#32 = ((1 : ℝ) : EReal) := by
  rw [Ideal.ofBits_one_f32]; rfl

section
variable (W : VV Ideal) (c : Dev nD) (fr : Fin 100000 → Fin 64 → ℝ)
  (hf : ∀ n b, (W c main_arg4 : Vec Ideal S100000x64 .f32) (ix2 n b) = ((fr n b : ℝ) : EReal))
  (ix : Vec Ideal S1x1024 .i32) (r : Fin 1024) {a : ℕ} (ha : a < 100000) (hix : ix (ixAt r) = BitVec.ofNat 32 (a / 4000 * 2000 + a % 2000))

include ha hix in
theorem gathered_at (l : Fin 128) : gathered (F := Ideal) (packed W c) ix (ix2 r l)
    = k1_pay5 (fBlkN W c (a / 4000)) (ix2 (⟨a % 2000, Nat.mod_lt _ (by norm_num)⟩ : Fin 2000) l) := by
  show packed W c (rowAt (ix (ixAt r)).toNat l) = _
  rw [hix, BitVec.toNat_ofNat, Nat.mod_eq_of_lt (by omega), rowAt_lt _ (by omega), ← packed_at W c (a / 4000) _ l (by show _ + a % 2000 < _; omega)]
  refine congrArg (packed W c) ?_
  have e : (⟨a / 4000 * 2000 + a % 2000, by omega⟩ : Fin 50000) = ⟨2000 * (a / 4000) + a % 2000, by omega⟩ := Fin.ext (by show a / 4000 * 2000 + a % 2000 = 2000 * (a / 4000) + a % 2000; omega)
  rw [e]

include hf ha hix in
theorem gathered_lo (b : Fin 64) : gathered (F := Ideal) (packed W c) ix (ix2 r (⟨b.val, by omega⟩ : Fin 128))
    = ((fr ⟨4000 * (a / 4000) + a % 2000, by omega⟩ b : ℝ) : EReal) := by
  rw [gathered_at W c ix r ha hix, pack_lo, block_at W c _ (by omega), hf]

include hf ha hix in
theorem gathered_hi (b : Fin 64) : gathered (F := Ideal) (packed W c) ix (ix2 r (⟨64 + b.val, by omega⟩ : Fin 128))
    = ((fr ⟨4000 * (a / 4000) + (2000 + a % 2000), by omega⟩ b : ℝ) : EReal) := by
  rw [gathered_at W c ix r ha hix, pack_hi, block_at W c _ (by omega), hf]

include hf ha hix in
/-- The half the mask keeps is the target's row. -/
theorem picked_at (k : EReal) (hk : k = FloatOps.uitofp (F := Ideal) .f32 (BitVec.ofBool (decide (a % 4000 < 2000)))) (b : Fin 64) :
    gathered (F := Ideal) (packed W c) ix (ix2 r (⟨b.val, by omega⟩ : Fin 128)) * k
      + gathered (F := Ideal) (packed W c) ix (ix2 r (⟨64 + b.val, by omega⟩ : Fin 128)) * (Ideal.ofBits .f32 0x3F800000#32 - k)
      = ((fr ⟨a, ha⟩ b : ℝ) : EReal) := by
  rw [gathered_lo W c fr hf ix r ha hix, gathered_hi W c fr hf ix r ha hix, hk, uitofp_at, one_word, ← EReal.coe_sub, ← EReal.coe_mul, ← EReal.coe_mul, ← EReal.coe_add]
  refine congrArg (fun y : ℝ => (y : EReal)) ?_
  by_cases h : a % 4000 < 2000
  · have e : (⟨4000 * (a / 4000) + a % 2000, by omega⟩ : Fin 100000) = ⟨a, ha⟩ := Fin.ext (by show 4000 * (a / 4000) + a % 2000 = a; omega)
    rw [e, decide_eq_true h]
    simp
  · have e : (⟨4000 * (a / 4000) + (2000 + a % 2000), by omega⟩ : Fin 100000) = ⟨a, ha⟩ :=
      Fin.ext (by show 4000 * (a / 4000) + (2000 + a % 2000) = a; omega)
    rw [e, decide_eq_false h]
    simp
end

/-! ## The whole run -/

section
variable (m : (ℓ : Loc nD τ sig) → Buf (Elt Ideal) ℓ) (d : Dev nD)

theorem V1_v0 : V1 m d main_v0 = (dat0 (V0 m) d).arrAt 1 cfg0.N := Function.update_self (Proc.devRef .tc main_v0) _ (V0 m d)
theorem V2_table : V2 m d main_v1_1 = (dat1 (V1 m) d).arrAt 3 cfg1.N :=
  Function.update_self (Proc.devRef .tc main_v1_1) _ (Function.update (V1 m d) (Proc.devRef .tc main_v1_0) ((dat1 (V1 m) d).arrAt 2 cfg1.N))
theorem V2_sums : V2 m d main_v1_0 = (dat1 (V1 m) d).arrAt 2 cfg1.N :=
  (upd_ne (V := Function.update (V1 m d) (Proc.devRef .tc main_v1_0) ((dat1 (V1 m) d).arrAt 2 cfg1.N)) (r := main_v1_1) (b := main_v1_0)
    ((dat1 (V1 m) d).arrAt 3 cfg1.N) (by decide)).trans (Function.update_self (Proc.devRef .tc main_v1_0) _ (V1 m d))
theorem XS_rows (W : VV Ideal) : XS W d main_v13 = gathered (F := Ideal) (W d main_v1_1) (W d main_v12) :=
  Function.update_self (Proc.devRef .tc main_v13) _ (W d)
theorem V4_rows : V4 m d main_v13 = gathered (F := Ideal) (V3 m d main_v1_1) (V3 m d main_v12) := XS_rows d (V3 m)
theorem V5_loss : V5 m d main_v14 = (dat3 (V4 m) d).arrAt 4 cfg3.N := Function.update_self (Proc.devRef .tc main_v14) _ (V4 m d)

theorem v0_mid : V1 m d main_v0 = k0_pay1 (m (a0Loc d) : Vec Ideal S1024x64 .f32) := (V1_v0 m d).trans (norm_array (V0 m) d)

theorem v0_end : V4 m d main_v0 = k0_pay1 (m (a0Loc d) : Vec Ideal S1024x64 .f32) := by
  rw [V4_kept m d (by decide), V3_kept m d (by decide), V2_kept m d (by decide) (by decide)]
  exact v0_mid m d

theorem sums_end : V4 m d main_v1_0 = accN (V1 m) d 24 := by
  rw [V4_kept m d (by decide), V3_kept m d (by decide)]
  exact (V2_sums m d).trans (sums_array (V1 m) d)

theorem mask_end : V4 m d main_v11 = maskVec (F := Ideal) (m (a1Loc d)) := by
  rw [V4_kept m d (by decide)]
  refine (host_v11 _).trans ?_
  rw [V3_arg1]

theorem table_end : V3 m d main_v1_1 = packed (V1 m) d := by
  rw [V3_kept m d (by decide)]
  exact (V2_table m d).trans (table_array (V1 m) d)

theorem index_end : V3 m d main_v12 = idxVec (m (a1Loc d)) := by
  refine (host_v12 _).trans ?_
  rw [V3_arg1]

theorem picked_end : V4 m d main_v13 = gathered (F := Ideal) (packed (V1 m) d) (idxVec (m (a1Loc d))) := by
  rw [V4_rows, table_end, index_end]

theorem loss_end : V5 m d main_v14
    = k3_pay1 (k0_pay1 (m (a0Loc d) : Vec Ideal S1024x64 .f32)) (gathered (F := Ideal) (packed (V1 m) d) (idxVec (m (a1Loc d))))
      (maskVec (F := Ideal) (m (a1Loc d))) (accN (V1 m) d 24) := by
  refine (V5_loss m d).trans ((loss_array (V4 m) d).trans ?_)
  rw [v0_end, picked_end, mask_end, sums_end]

/-- From targets in range and real stored rows, the kernel's result is the mean cross entropy. -/
theorem kernel_value (h : ∀ r : Fin 1024, ((m (a1Loc d) : IVec S1024 32) (ix1 r)).toNat < 100000) (fr : Fin 100000 → Fin 64 → ℝ)
    (hf : ∀ n b, (m (a4Loc d) : Vec Ideal S100000x64 .f32) (ix2 n b) = ((fr n b : ℝ) : EReal)) (j : S_.Idx) :
    (V6 m d main_v15 : Vec Ideal S_ .f32) j
      = ((loss (rowsOf (m (a0Loc d))) fr (fun r => ⟨((m (a1Loc d) : IVec S1024 32) (ix1 r)).toNat, h r⟩) : ℝ) : EReal) := by
  have e : V6 m d main_v15 = shapeCast S_ (V5 m d main_v14) shapeCasts_S1x1_S_ := end_v15 _
  rw [e, loss_end]
  refine (shapeCast_apply _ _ _ (ix2 0 0) (by rw [Shape.rowMajor_val_two]; have := (S_.rowMajor j).isLt; show 0 * 1 + 0 = _; have hn : S_.numel = 1 := rfl; omega)).trans ?_
  rw [combine_at]
  refine mean_eq _ _ _ _ fun r => ?_
  refine Eq.trans ?_ (kernel_row (rowsOf (m (a0Loc d))) fr (fun r => ⟨((m (a1Loc d) : IVec S1024 32) (ix1 r)).toNat, h r⟩) r)
  have hf' : ∀ n b, (V1 m d main_arg4 : Vec Ideal S100000x64 .f32) (ix2 n b) = ((fr n b : ℝ) : EReal) := fun n b => by
    rw [V1_kept m d (by decide)]; exact hf n b
  unfold part
  rw [sums_at (V1 m) d (m (a0Loc d)) fr (v0_mid m d) hf' r]
  refine congrArg (fun y => _ - y * _) (Finset.sum_congr rfl fun b _ => ?_)
  have hw : (m (a1Loc d) : IVec S1024 32) (ix1 r) = BitVec.ofNat 32 ((m (a1Loc d) : IVec S1024 32) (ix1 r)).toNat := by
    rw [BitVec.ofNat_toNat, BitVec.setWidth_eq]
  rw [picked_at (V1 m) d fr hf' _ r (h r) (idxVec_at _ r hw (h r)) _ (maskVec_at _ r hw (h r)), norm_at]
  rfl
end

end Cert.ScLoss

end
-- ==== Proof.RefValue.lean ====
/-
  The reference's result at exact arithmetic: the mean cross entropy of `Spec`, from arguments whose stored rows are
  real and whose targets name rows of the table.
-/
module

public import proofs.«01_k».proof.Proof.Gen.ReferenceIdeal.Run
public import proofs.«01_k».proof.Proof.Spec
public import Idealize.ShloMosaic.Lib.MatmulPlain
public import Idealize.ShloMosaic.Lib.ValueIdxRank1
public import Idealize.ShloMosaic.Lib.ReduceAll
public import Idealize.ShloMosaic.Lib.Pipeline.Value

@[expose] public section

noncomputable section

namespace Cert.ScLoss.Ref

open Cert.ReferenceIdeal Cert.ReferenceIdeal.Gen
open Idealize.ShloMosaic Idealize.ShloMosaic.ValueIdx Idealize.SL.Sem

/-! ### Reading rows -/

/-- A vector set up as a column. -/
theorem col_at {α : Type} (v : S1024.Idx → α) (r : Fin 1024) (j : Fin 1) :
    broadcastInDim S1024x1 ![0] bcast_S1024_S1024x1_0 v (ix2 r j) = v (ix1 r) :=
  broadcastInDim_apply _ _ _ _ (ix1 r) (fun a => by match a with | ⟨0, _⟩ => rfl)

theorem wide64_at {α : Type} (v : S1024x1.Idx → α) (r : Fin 1024) (c : Fin 64) :
    broadcastInDim S1024x64 ![0, 1] bcast_S1024x1_S1024x64_0_1 v (ix2 r c) = v (ix2 r 0) :=
  broadcastInDim_apply _ _ _ _ (ix2 r 0) (fun a => by match a with | ⟨0, _⟩ => rfl | ⟨1, _⟩ => rfl)

theorem wide_at {α : Type} (v : S1024x1.Idx → α) (r : Fin 1024) (n : Fin 100000) :
    broadcastInDim S1024x100000 ![0, 1] bcast_S1024x1_S1024x100000_0_1 v (ix2 r n) = v (ix2 r 0) :=
  broadcastInDim_apply _ _ _ _ (ix2 r 0) (fun a => by match a with | ⟨0, _⟩ => rfl | ⟨1, _⟩ => rfl)

theorem lift64 (h : S1024x64.Reduces [1] S1024) (r : Fin 1024) (k : Fin 64) : h.lift (ix1 r) k = ix2 r k := by
  funext a; apply Fin.ext
  match a with
  | ⟨0, _⟩ => rfl
  | ⟨1, _⟩ => rfl

theorem liftN (h : S1024x100000.Reduces [1] S1024) (r : Fin 1024) (k : Fin 100000) : h.lift (ix1 r) k = ix2 r k := by
  funext a; apply Fin.ext
  match a with
  | ⟨0, _⟩ => rfl
  | ⟨1, _⟩ => rfl

theorem red64 : S1024x64.Reduces [1] S1024 := by decide
theorem redN : S1024x100000.Reduces [1] S1024 := by decide

theorem sum64 (x : FVec Ideal S1024x64 .f32) (r : Fin 1024) :
    Host.reduceAdd x (constant S_ .f32 0x00000000#32) reducesTo_S1024x64_S1024_d1 h_S_ (ix1 r) = ∑ k, x (ix2 r k) := by
  rw [hostReduceAdd_apply, Ideal.hostReduceAdd_single _ red64, constant_apply, Ideal.ofBits_zero_f32, zero_add]
  exact Finset.sum_congr rfl fun k _ => congrArg x (lift64 red64 r k)

theorem sumN (x : FVec Ideal S1024x100000 .f32) (r : Fin 1024) :
    Host.reduceAdd x (constant S_ .f32 0x00000000#32) reducesTo_S1024x100000_S1024_d1 h_S_ (ix1 r) = ∑ k, x (ix2 r k) := by
  rw [hostReduceAdd_apply, Ideal.hostReduceAdd_single _ redN, constant_apply, Ideal.ofBits_zero_f32, zero_add]
  exact Finset.sum_congr rfl fun k _ => congrArg x (liftN redN r k)

theorem ninf_word : Ideal.ofBits .f32 0xFF800000#32 = ⊥ := by simp [Ideal.ofBits, Ideal.ieee]

theorem maxN (x : FVec Ideal S1024x100000 .f32) (r : Fin 1024) :
    Host.reduce FloatOps.maximumf x (constant S_ .f32 0xFF800000#32) reducesTo_S1024x100000_S1024_d1 h_S_ (ix1 r)
      = (Finset.univ : Finset (Fin 100000)).fold max (⊥ : EReal) (fun k => x (ix2 r k)) := by
  rw [Host.reduce_eq_fold_single _ _ _ _ redN, constant_apply, ninf_word]
  have e : (x ∘ redN.lift (ix1 r)) = fun k : Fin 100000 => x (ix2 r k) := funext fun k => congrArg x (liftN redN r k)
  rw [e]
  rfl

theorem sqrt_at {s : Shape} (v : FVec Ideal s .f32) (j : s.Idx) : Host.sqrt v j = Ideal.sqrt (v j) := rfl
theorem log_at {s : Shape} (v : FVec Ideal s .f32) (j : s.Idx) : Host.log v j = Ideal.log (v j) := rfl
theorem exp_at {s : Shape} (v : FVec Ideal s .f32) (j : s.Idx) : Host.exp v j = Ideal.exp (v j) := rfl

/-! ### The stages -/

/-- The normalised rows. -/
def unitRows (x : FVec Ideal S1024x64 .f32) : FVec Ideal S1024x64 .f32 :=
  Host.divf x (broadcastInDim S1024x64 ![0, 1] bcast_S1024x1_S1024x64_0_1
    (maximumf (broadcastInDim S1024x1 ![] bcast_S_S1024x1 (id (constant S_ .f32 0x2B8CBCCC#32)))
      (Host.sqrt (broadcastInDim S1024x1 ![0] bcast_S1024_S1024x1_0
        (Host.reduceAdd (mulf x x) (constant S_ .f32 0x00000000#32) reducesTo_S1024x64_S1024_d1 h_S_)))))

theorem unitRows_at (x : FVec Ideal S1024x64 .f32) (r : Fin 1024) (c : Fin 64) :
    unitRows x (ix2 r c) = (unit (fun k => x (ix2 r k)) c : EReal) := by
  rw [← unit_eq]
  unfold unitRows
  rw [hostDivf_apply, wide64_at, maximumf_apply, broadcastInDim_scalar_apply]
  rw [sqrt_at, col_at, sum64, max_comm]
  rfl

/-- The scores. -/
def scores (x : FVec Ideal S1024x64 .f32) (f : FVec Ideal S100000x64 .f32) : FVec Ideal S1024x100000 .f32 :=
  Host.divf (Host.dotGeneral dot_S1024x64_S64x100000_S1024x100000_1_0_0_1_n_n none (unitRows x)
      (transpose S64x100000 [1, 0] f transposes_S100000x64_S64x100000_1_0))
    (broadcastInDim S1024x100000 ![] bcast_S_S1024x100000 (constant S_ .f32 0x3D4CCCCD#32))

theorem product_at (l : FVec Ideal S1024x64 .f32) (g : FVec Ideal S64x100000 .f32) (r : Fin 1024) (n : Fin 100000) :
    Host.dotGeneral dot_S1024x64_S64x100000_S1024x100000_1_0_0_1_n_n none l g (ix2 r n) = ∑ c, l (ix2 r c) * g (ix2 c n) := by
  have h := Ideal.matmul_plain_apply (M := 1024) (K := 64) (N := 100000) none l g (constant _ .f32 0x00000000#32) r n
  rw [constant_apply, Ideal.ofBits_zero_f32, zero_add] at h
  rw [← h, Ideal.matmul_constant_zero_apply]
  show FloatOps.dotGeneral _ _ _ _ _ _ = _
  rw [Ideal.dotGeneral_apply]
  rfl

variable (x : FVec Ideal S1024x64 .f32) (f : FVec Ideal S100000x64 .f32) (fr : Fin 100000 → Fin 64 → ℝ)

/-- The unit rows of an array. -/
abbrev uRows (x : FVec Ideal S1024x64 .f32) : Fin 1024 → Fin 64 → ℝ := fun r => unit (fun k => x (ix2 r k))

theorem scores_at (hf : ∀ n c, f (ix2 n c) = (fr n c : EReal)) (r : Fin 1024) (n : Fin 100000) :
    scores x f (ix2 r n) = (score (uRows x) fr r n : EReal) := by
  rw [← ref_score]
  unfold scores
  rw [hostDivf_apply, product_at, broadcastInDim_scalar_apply, constant_apply]
  congr 1
  refine Finset.sum_congr rfl fun c _ => ?_
  rw [unitRows_at, transpose_apply _ _ _ _ (ix2 n c) (fun b => by match b with | ⟨0, _⟩ => rfl | ⟨1, _⟩ => rfl), hf]

/-- The scores less a row's largest. -/
def shifted (z : FVec Ideal S1024x100000 .f32) : FVec Ideal S1024x100000 .f32 :=
  subf z (broadcastInDim S1024x100000 ![0, 1] bcast_S1024x1_S1024x100000_0_1 (broadcastInDim S1024x1 ![0] bcast_S1024_S1024x1_0
    (maximumf (broadcastInDim S1024 ![] bcast_S_S1024 (constant S_ .f32 0xFF800000#32))
      (Host.reduce FloatOps.maximumf z (constant S_ .f32 0xFF800000#32) reducesTo_S1024x100000_S1024_d1 h_S_))))

/-- The logarithms of the softmax. -/
def logProb (z : FVec Ideal S1024x100000 .f32) : FVec Ideal S1024x100000 .f32 :=
  subf (shifted z) (broadcastInDim S1024x100000 ![0, 1] bcast_S1024x1_S1024x100000_0_1 (Host.log (broadcastInDim S1024x1 ![0]
    bcast_S1024_S1024x1_0 (Host.reduceAdd (Host.exp (shifted z)) (constant S_ .f32 0x00000000#32) reducesTo_S1024x100000_S1024_d1 h_S_))))

theorem shifted_at (z : FVec Ideal S1024x100000 .f32) (zr : Fin 1024 → Fin 100000 → ℝ)
    (hz : ∀ r n, z (ix2 r n) = (zr r n : EReal)) (r : Fin 1024) :
    ∃ b : ℝ, ∀ n, shifted z (ix2 r n) = (zr r n : EReal) - (b : EReal) := by
  obtain ⟨b, hb⟩ := max_real (zr r)
  refine ⟨b, fun n => ?_⟩
  unfold shifted
  rw [subf_apply, wide_at, col_at, maximumf_apply, broadcastInDim_scalar_apply, constant_apply, ninf_word, maxN, hz]
  have e : (fun k => z (ix2 r k)) = fun k => (zr r k : EReal) := funext fun k => hz r k
  rw [e, hb, max_eq_right bot_le]

theorem logProb_at (z : FVec Ideal S1024x100000 .f32) (u : Fin 1024 → Fin 64 → ℝ)
    (hz : ∀ r n, z (ix2 r n) = (score u fr r n : EReal)) (tgt : Fin 1024 → Fin 100000) (r : Fin 1024) :
    logProb z (ix2 r (tgt r)) = ((-(Real.log (total u fr r) - score u fr r (tgt r)) : ℝ) : EReal) := by
  obtain ⟨b, hb⟩ := shifted_at z (score u fr) hz r
  rw [← ref_row u fr tgt b r]
  unfold logProb
  have e : ∑ n, Host.exp (shifted z) (ix2 r n) = ∑ n, Ideal.exp (((score u fr r n : ℝ) : EReal) - ((b : ℝ) : EReal)) :=
    Finset.sum_congr rfl fun n _ => by rw [exp_at, hb]
  rw [subf_apply, wide_at, hb, log_at, col_at, sumN, e]

/-! ### The target's entry -/

/-- The targets as row numbers, negative ones counted from the end. -/
def rowNo (t : IVec S1024 32) : IVec S1024x1x1 32 :=
  shapeCast _ (select (cmpi .slt (broadcastInDim S1024x1 ![0] bcast_S1024_S1024x1_0 t) (broadcastInDim S1024x1 ![] bcast_S_S1024x1 (constantI S_ 32 0#32)))
    (addi (broadcastInDim S1024x1 ![0] bcast_S1024_S1024x1_0 t) (broadcastInDim S1024x1 ![] bcast_S_S1024x1 (constantI S_ 32 100000#32)))
    (broadcastInDim S1024x1 ![0] bcast_S1024_S1024x1_0 t)) shapeCasts_S1024x1_S1024x1x1

/-- Whether each target names a row. -/
def rowOk (t : IVec S1024 32) : IVec S1024x1 1 :=
  Host.reduce IntOp.andi (andi (cmpi .sge (rowNo t) (broadcastInDim S1024x1x1 ![] bcast_S_S1024x1x1 (constantI S_ 32 0#32)))
    (cmpi .sle (rowNo t) (broadcastInDim S1024x1x1 ![0, 1, 2] bcast_S1x1x1_S1024x1x1_0_1_2 (broadcastInDim S1x1x1 ![2] bcast_S1_S1x1x1_2 (constantI S1 32 99999#32)))))
    (constantI S_ 1 1#1) reducesTo_S1024x1x1_S1024x1_d2 h_S_

/-- Each row's entry at its target. -/
def picked (t : IVec S1024 32) (z : FVec Ideal S1024x100000 .f32) : FVec Ideal S1024x1 .f32 :=
  select (rowOk t) (Host.gather gather_S1024x100000_S1024x1x1_S1024x1_n_1_0_0_1_2_11 z (rowNo t))
    (broadcastInDim S1024x1 ![] bcast_S_S1024x1 (constant S_ .f32 0x7FC00000#32))

theorem word_facts (w : BitVec 32) (h : w.toNat < 100000) :
    IntOp.cmpi .slt w 0#32 = 0#1 ∧ IntOp.cmpi .sge w 0#32 = 1#1 ∧ IntOp.cmpi .sle w 99999#32 = 1#1 ∧ w.toInt.toNat = w.toNat := by
  have e : w.toInt = w.toNat := BitVec.toInt_eq_toNat_of_lt (by omega)
  have e1 : (99999#32 : BitVec 32).toInt = 99999 := by decide
  have e0 : (0#32 : BitVec 32).toInt = 0 := by decide
  refine ⟨?_, ?_, ?_, by rw [e]; rfl⟩
  · simp only [IntOp.cmpi, BitVec.slt, e, e0]
    rw [decide_eq_false (by omega)]; rfl
  · simp only [IntOp.cmpi, BitVec.sle, e, e0]
    rw [decide_eq_true (by omega)]; rfl
  · simp only [IntOp.cmpi, BitVec.sle, e, e1]
    rw [decide_eq_true (by omega)]; rfl

theorem rowNo_at (t : IVec S1024 32) (h : ∀ r, (t (ix1 r)).toNat < 100000) (r : Fin 1024) (a b : Fin 1) :
    rowNo t (ix3 r a b) = t (ix1 r) := by
  unfold rowNo
  rw [shapeCast_apply _ _ _ (ix2 r 0) (by
    rw [Shape.rowMajor_val_two, Shape.rowMajor_val_three]
    have ha := a.isLt; have hb := b.isLt
    show r.val * 1 + 0 = (r.val * 1 + a.val) * 1 + b.val
    omega)]
  rw [select_apply, col_at]
  have e : cmpi .slt (broadcastInDim S1024x1 ![0] bcast_S1024_S1024x1_0 t) (broadcastInDim S1024x1 ![] bcast_S_S1024x1 (constantI S_ 32 0#32)) (ix2 r 0) = 0#1 := by
    show IntOp.cmpi .slt (broadcastInDim S1024x1 ![0] bcast_S1024_S1024x1_0 t (ix2 r 0)) 0#32 = 0#1
    rw [col_at]
    exact (word_facts _ (h r)).1
  rw [e, select_zero]

theorem rowOk_at (t : IVec S1024 32) (h : ∀ r, (t (ix1 r)).toNat < 100000) (j : S1024x1.Idx) : rowOk t j = 1#1 := by
  unfold rowOk
  refine Host.reduce_andi_one _ _ _ _ _ rfl fun i => ?_
  obtain ⟨r, a, b, rfl⟩ : ∃ (r : Fin 1024) (a b : Fin 1), i = ix3 r a b := ⟨i 0, i 1, i 2, eq_ix3 i⟩
  refine IntOp.andi_eq_one.2 ⟨?_, ?_⟩
  · show IntOp.cmpi .sge (rowNo t _) 0#32 = 1#1
    rw [rowNo_at t h]
    exact (word_facts _ (h _)).2.1
  · show IntOp.cmpi .sle (rowNo t _) 99999#32 = 1#1
    rw [rowNo_at t h]
    exact (word_facts _ (h _)).2.2.1

/-- The gather along each row, read at a row. -/
theorem gather_at (z : FVec Ideal S1024x100000 .f32) (idx : IVec S1024x1x1 32) (r : Fin 1024) (n : Fin 100000)
    (hn : (idx (ix3 r 0 0)).toInt.toNat = n.val) :
    Host.gather gather_S1024x100000_S1024x1x1_S1024x1_n_1_0_0_1_2_11 z idx (ix2 r 0) = z (ix2 r n) := by
  unfold Host.gather
  refine congrArg z (funext fun a => Fin.ext ?_)
  show GatherDims.start _ (ix2 r 0) idx a + GatherDims.batchCoord _ (ix2 r 0) a + GatherDims.offCoord _ (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S1024x100000_S1024x1x1_S1024x1_n_1_0_0_1_2_11.operandBatchingDims from List.mem_singleton.mpr rfl)]
    rfl
  · rw [GatherDims.batchCoord_eq_zero _ _ _ (fun h => absurd (List.mem_singleton.mp h : (1 : Fin 2) = 0) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x100000_S1024x1x1_S1024x1_n_1_0_0_1_2_11.startIndexMap from List.mem_singleton.mpr rfl)]
    have hs : ∀ hl, GatherDims.siIdx gather_S1024x100000_S1024x1x1_S1024x1_n_1_0_0_1_2_11 (ix2 r 0) ⟨List.idxOf (1 : Fin 2) [1], hl⟩ = ix3 r 0 0 := by
      intro hl
      funext b; refine Fin.ext ?_
      match b with
      | ⟨0, _⟩ => rfl
      | ⟨1, _⟩ => rfl
      | ⟨2, _⟩ => rfl
    have key : min (idx (ix3 r 0 0)).toInt.toNat (100000 - 1) = n.val := by
      rw [hn]; have := n.isLt; omega
    refine Eq.trans ?_ key
    exact congrArg (fun j => min (idx j).toInt.toNat (100000 - 1)) (hs _)

theorem picked_at (t : IVec S1024 32) (h : ∀ r, (t (ix1 r)).toNat < 100000) (z : FVec Ideal S1024x100000 .f32) (r : Fin 1024) :
    picked t z (ix2 r 0) = z (ix2 r ⟨(t (ix1 r)).toNat, h r⟩) := by
  unfold picked
  rw [select_apply, rowOk_at t h, select_one]
  refine gather_at z _ r _ ?_
  rw [rowNo_at t h]
  exact (word_facts _ (h r)).2.2.2

/-! ### The result -/

/-- The mean of the negated entries. -/
def meanNeg (p : FVec Ideal S1024x1 .f32) : FVec Ideal S_ .f32 :=
  Host.divf (Host.reduceAdd (Host.negf (shapeCast _ p shapeCasts_S1024x1_S1024)) (constant S_ .f32 0x00000000#32) reducesTo_S1024_S_d0 h_S_)
    (constant S_ .f32 0x44800000#32)

theorem meanNeg_at (p : FVec Ideal S1024x1 .f32) (j : S_.Idx) :
    meanNeg p j = Ideal.div (∑ r : Fin 1024, -(p (ix2 r 0))) (Ideal.ofBits .f32 0x44800000#32) := by
  unfold meanNeg
  rw [hostDivf_apply, hostReduceAdd_apply, Ideal.hostReduceAdd_total _ (fun b => b.elim0), constant_apply, constant_apply,
    Ideal.ofBits_zero_f32, zero_add, ← Equiv.sum_comp (idxEquiv1 (n := 1024)).symm]
  congr 1
  refine Finset.sum_congr rfl fun r _ => ?_
  show -(shapeCast S1024 p shapeCasts_S1024x1_S1024 (ix1 r)) = _
  rw [shapeCast_apply _ _ _ (ix2 r 0) (by
    rw [Shape.rowMajor_val_two, Shape.rowMajor_val_one]
    show r.val * 1 + 0 = r.val
    omega)]

/-- The reference's term is its stages, one after another. -/
theorem result_eq (m : (ℓ : Loc nD τ sig) → Buf (Elt Ideal) ℓ) (c : Dev nD) :
    Cert.ReferenceIdeal.Value.res_main_v14 m c
      = meanNeg (picked (m ((c.tc : Thread nD τ).loc main_arg1))
          (logProb (scores (m ((c.tc : Thread nD τ).loc main_arg0)) (m ((c.tc : Thread nD τ).loc main_arg4))))) := by
  unfold Cert.ReferenceIdeal.Value.res_main_v14
  rfl

/-- **The reference's result is the loss.** -/
theorem value (x : FVec Ideal S1024x64 .f32) (t : IVec S1024 32) (f : FVec Ideal S100000x64 .f32) (fr : Fin 100000 → Fin 64 → ℝ)
    (ht : ∀ r, (t (ix1 r)).toNat < 100000) (hf : ∀ n c, f (ix2 n c) = (fr n c : EReal)) :
    meanNeg (picked t (logProb (scores x f)))
      = fun _ => ((loss (uRows x) fr (fun r => ⟨(t (ix1 r)).toNat, ht r⟩) : ℝ) : EReal) := by
  funext j
  rw [meanNeg_at]
  refine mean_eq (uRows x) fr _ _ fun r => ?_
  rw [picked_at t ht, logProb_at fr _ (uRows x) (scores_at x f fr hf) (fun r => ⟨(t (ix1 r)).toNat, ht r⟩) r, ← EReal.coe_neg, neg_neg]

end Cert.ScLoss.Ref
-- ==== Proof.Value.lean ====
/-
  The value claim: at exact arithmetic the kernel and the reference end with the same loss.
-/
module

public import proofs.«01_k».proof.Proof.Frames
public import proofs.«01_k».proof.Proof.KernelValue
public import proofs.«01_k».proof.Proof.RefValue

@[expose] public section

noncomputable section

namespace Cert.ScLoss

open Idealize.ShloMosaic Idealize.ShloMosaic.ValueIdx Idealize.SL.Sem

theorem infinity_word : Ideal.ofBits .f32 0x7F800000#32 = ⊤ := by simp [Ideal.ofBits, Ideal.ieee]

/-- A value whose size is below infinity is a real. -/
theorem real_of_finite (y : EReal) (h : FloatOps.cmpf (F := Ideal) (φ := .f32) .olt (FloatOps.hostAbsf (F := Ideal) (φ := .f32) y)
    (FloatOps.ofBits (F := Ideal) .f32 0x7F800000#32) = 1#1) : y = ((y.toReal : ℝ) : EReal) := by
  have h' : BitVec.ofBool (decide (max y (-y) < Ideal.ofBits .f32 0x7F800000#32)) = 1#1 := h
  rw [infinity_word] at h'
  have hlt : max y (-y) < ⊤ := by
    by_contra hn
    rw [decide_eq_false hn] at h'
    exact absurd h' (by decide)
  refine (EReal.coe_toReal (fun e => ?_) (fun e => ?_)).symm
  · rw [e] at hlt; simp at hlt
  · rw [e] at hlt; simp at hlt

/-- The loss of a memory's arguments on a device. -/
def lossOf (m : (ℓ : Loc Cert.KernelIdeal.nD Cert.KernelIdeal.τ Cert.KernelIdeal.sig) → Buf (Elt Ideal) ℓ) (h : InRange m)
    (c : Dev Cert.KernelIdeal.nD) : EReal :=
  ((loss (rowsOf (m (a0Loc c))) (fun n b => ((m (a4Loc c) : Vec Ideal Cert.KernelIdeal.S100000x64 .f32) (ix2 n b)).toReal)
    (fun r => ⟨((m (a1Loc c) : IVec Cert.KernelIdeal.S1024 32) (ix1 r)).toNat, h c r⟩) : ℝ) : EReal)

theorem algebraic : Cert.algebraic_KernelIdeal_ReferenceIdeal_pre_finite_in_range := by
  intro m g m' g' hp hm
  obtain ⟨hr, hfin⟩ := finite_in_range m hp
  have hf : ∀ (c : Dev Cert.KernelIdeal.nD) n b, (m (a4Loc c) : Vec Ideal Cert.KernelIdeal.S100000x64 .f32) (ix2 n b)
      = ((((m (a4Loc c) : Vec Ideal Cert.KernelIdeal.S100000x64 .f32) (ix2 n b)).toReal : ℝ) : EReal) :=
    fun c n b => real_of_finite _ (hfin c (ix2 n b))
  refine ⟨fun c _ => lossOf m hr c, ?_, ?_⟩
  · refine (θ_run Cert.KernelIdeal.defs _ _).mono (fun r h c => ⟨?_, ?_⟩) (run_main m g (rows_ok m hr))
    · refine (h.1 c Cert.KernelIdeal.main_v15 (by decide)).trans ?_
      funext j
      exact kernel_value m c (hr c) _ (hf c) j
    · exact ⟨(h.1 c Cert.KernelIdeal.main_arg0 (by decide)).trans (kept m c (by decide)), (h.1 c Cert.KernelIdeal.main_arg1 (by decide)).trans (kept m c (by decide)),
        (h.1 c Cert.KernelIdeal.main_arg2 (by decide)).trans (kept m c (by decide)), (h.1 c Cert.KernelIdeal.main_arg3 (by decide)).trans (kept m c (by decide)),
        (h.1 c Cert.KernelIdeal.main_arg4 (by decide)).trans (kept m c (by decide))⟩
  · refine (θ_run Cert.ReferenceIdeal.defs _ _).mono (fun r h c => ⟨(h c).1.trans ?_, (h c).2⟩) (Cert.ReferenceIdeal.Value.run (F := Ideal) m' g')
    rw [Ref.result_eq, (hm c).1, (hm c).2.1, (hm c).2.2.2.2]
    exact Ref.value (m (a0Loc c)) (m (a1Loc c)) (m (a4Loc c)) _ (hr c) (hf c)

end Cert.ScLoss

end
-- ==== Proof.lean ====
module

public import proofs.«01_k».proof.Defs
public import proofs.«01_k».proof.Proof.Value

@[expose] public section

noncomputable section

namespace Cert.Proof

open Cert.ScLoss

/-- `Cert.Claim` (Defs.lean): the frames and the named constants (Frames.lean), and the value (Value.lean). -/
theorem claim : Cert.Claim :=
  ⟨Cert.Kernel.Gen.facts, Cert.KernelIdeal.Gen.facts, Cert.ReferenceIdeal.Gen.facts, Cert.Pre_in_range.Gen.facts,
    Cert.Pre_finite_in_range.Gen.facts,
    frame_P, frame_PI, frame_PI_finite, frame_RI, frame_RI_finite, preserves, algebraic⟩

end Cert.Proof

end
